-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 4096]⟩ ⟨3, ![8, 2048, 4096]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x4096 : Shape := ⟨3, ![1, 2048, 4096]⟩
abbrev S2048x512 : Shape := ⟨2, ![2048, 512]⟩
abbrev S2x1024x512 : Shape := ⟨3, ![2, 1024, 512]⟩
abbrev S7x1024x512 : Shape := ⟨3, ![7, 1024, 512]⟩
abbrev S2 : Shape := ⟨1, ![2]⟩
abbrev S2x2 : Shape := ⟨2, ![2, 2]⟩
abbrev S7x2 : Shape := ⟨2, ![7, 2]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x512x512 : Shape := ⟨3, ![1, 512, 512]⟩
abbrev S512x512 : Shape := ⟨2, ![512, 512]⟩
abbrev S1x1 : Shape := ⟨2, ![1, 1]⟩

abbrev nBuf : Space → Nat
  | .hbm => 2
  | .vmem => 7
  | .smem => 0
  | _ => 0

abbrev bufTy : (tb : Table) → Fin (tcTables nBuf tb) → BufTy
  | .hbm, ⟨0, _⟩ => ⟨S1x2048x4096, .f32⟩
  | .hbm, ⟨1, _⟩ => ⟨S2048x512, .bf16⟩
  | .local _ .vmem, ⟨0, _⟩ => ⟨S2048x512, .bf16⟩
  | .local _ .vmem, ⟨1, _⟩ => ⟨S2x1024x512, .f32⟩
  | .local _ .vmem, ⟨2, _⟩ => ⟨S2x1024x512, .f32⟩
  | .local _ .vmem, ⟨3, _⟩ => ⟨S2x1024x512, .bf16⟩
  | .local _ .vmem, ⟨4, _⟩ => ⟨S2x1024x512, .bf16⟩
  | .local _ .vmem, ⟨5, _⟩ => ⟨S7x1024x512, .bf16⟩
  | .local _ .vmem, ⟨6, _⟩ => ⟨S7x1024x512, .bf16⟩
  | _, _ => ⟨S1x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_21 : BitVec 32 := 0#32
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_10 : BitVec 32 := 1#32
  let v18 : BitVec 32 := Scalar.subi v5 c1_i32_10
  let v19 : BitVec 32 := Scalar.subi v18 c0_i32
  let c8_i32_11 : BitVec 32 := 8#32
  let v20 : BitVec 32 := Scalar.addi v19 c8_i32_11
  let c8_i32_12 : BitVec 32 := 8#32
  let v21 : BitVec 32 := Scalar.remsi v20 c8_i32_12
  let c4_i32_13 : BitVec 32 := 4#32
  let v22 : BitVec 1 := Scalar.cmpi .slt v21 c4_i32_13
  let c11_i32_14 : BitVec 32 := 11#32
  let v23 : BitVec 32 := Scalar.subi c11_i32_14 v21
  let v24 : BitVec 32 := Scalar.select v22 v21 v23
  let c512_i32 : BitVec 32 := 512#32
  let v32 : BitVec 32 := Scalar.muli v24 c512_i32
  ![0, 0, v32.toNat]
def k0_off2 (d0 : Dev nD) (c0_i32_16 : BitVec 32) : Fin 3 → Nat :=
  let c0_i32_28 : BitVec 32 := 0#32
  let c1024_i32 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_15 : BitVec 32 := 1#32
  let v25 : BitVec 32 := Scalar.addi v5 c1_i32_15
  let v26 : BitVec 32 := Scalar.addi v25 c0_i32_16
  let c8_i32_17 : BitVec 32 := 8#32
  let v27 : BitVec 32 := Scalar.addi v26 c8_i32_17
  let c8_i32_18 : BitVec 32 := 8#32
  let v28 : BitVec 32 := Scalar.remsi v27 c8_i32_18
  let c4_i32_19 : BitVec 32 := 4#32
  let v29 : BitVec 1 := Scalar.cmpi .slt v28 c4_i32_19
  let c11_i32_20 : BitVec 32 := 11#32
  let v30 : BitVec 32 := Scalar.subi c11_i32_20 v28
  let v31 : BitVec 32 := Scalar.select v29 v28 v30
  let c512_i32_27 : BitVec 32 := 512#32
  let v39 : BitVec 32 := Scalar.muli v31 c512_i32_27
  ![0, 1024, v39.toNat]
def k0_dev1 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_60 : BitVec 32 := 1#32
  let v75 : BitVec 32 := Scalar.muli v11 c1_i32_60
  let v76 : BitVec 32 := Scalar.addi c0_i32_61 v75
  v76.toNat
def k0_dev2 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_63 : BitVec 32 := 1#32
  let v77 : BitVec 32 := Scalar.muli v17 c1_i32_63
  let v78 : BitVec 32 := Scalar.addi c0_i32_64 v77
  v78.toNat
def k0_dev3 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_105 : BitVec 32 := 1#32
  let v115 : BitVec 32 := Scalar.muli v17 c1_i32_105
  let v116 : BitVec 32 := Scalar.addi c0_i32_106 v115
  v116.toNat
def k0_dev4 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_117 : BitVec 32 := 1#32
  let v125 : BitVec 32 := Scalar.muli v11 c1_i32_117
  let v126 : BitVec 32 := Scalar.addi c0_i32_118 v125
  v126.toNat
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_129 : BitVec 32 := 1#32
  let v135 : BitVec 32 := Scalar.muli v17 c1_i32_129
  let v136 : BitVec 32 := Scalar.addi c0_i32_130 v135
  v136.toNat
def k0_dev6 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_141 : BitVec 32 := 1#32
  let v145 : BitVec 32 := Scalar.muli v11 c1_i32_141
  let v146 : BitVec 32 := Scalar.addi c0_i32_142 v145
  v146.toNat
def k0_dev7 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_205 : BitVec 32 := 1#32
  let v206 : BitVec 32 := Scalar.muli v17 c1_i32_205
  let v207 : BitVec 32 := Scalar.addi c0_i32_206 v206
  v207.toNat
def k0_dev8 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_244 : BitVec 32 := 1#32
  let v239 : BitVec 32 := Scalar.muli v11 c1_i32_244
  let v240 : BitVec 32 := Scalar.addi c0_i32_245 v239
  v240.toNat
def k0_dev9 (d0 : Dev nD) : Nat :=
  let c0_i32_278 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_277 : BitVec 32 := 1#32
  let v266 : BitVec 32 := Scalar.muli v17 c1_i32_277
  let v267 : BitVec 32 := Scalar.addi c0_i32_278 v266
  v267.toNat
def k0_dev10 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_310 : BitVec 32 := 1#32
  let v293 : BitVec 32 := Scalar.muli v11 c1_i32_310
  let v294 : BitVec 32 := Scalar.addi c0_i32_311 v293
  v294.toNat
def k0_dev11 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_418 : BitVec 32 := 1#32
  let v378 : BitVec 32 := Scalar.muli v17 c1_i32_418
  let v379 : BitVec 32 := Scalar.addi c0_i32_419 v378
  v379.toNat
def k0_dev12 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_457 : BitVec 32 := 1#32
  let v411 : BitVec 32 := Scalar.muli v11 c1_i32_457
  let v412 : BitVec 32 := Scalar.addi c0_i32_458 v411
  v412.toNat
def k0_dev13 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_490 : BitVec 32 := 1#32
  let v438 : BitVec 32 := Scalar.muli v17 c1_i32_490
  let v439 : BitVec 32 := Scalar.addi c0_i32_491 v438
  v439.toNat
def k0_dev14 (d0 : Dev nD) : Nat :=
  let c0_i32_524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_523 : BitVec 32 := 1#32
  let v465 : BitVec 32 := Scalar.muli v11 c1_i32_523
  let v466 : BitVec 32 := Scalar.addi c0_i32_524 v465
  v466.toNat
def k0_dev15 (d0 : Dev nD) : Nat :=
  let c0_i32_632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_631 : BitVec 32 := 1#32
  let v550 : BitVec 32 := Scalar.muli v17 c1_i32_631
  let v551 : BitVec 32 := Scalar.addi c0_i32_632 v550
  v551.toNat
def k0_dev16 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_670 : BitVec 32 := 1#32
  let v583 : BitVec 32 := Scalar.muli v11 c1_i32_670
  let v584 : BitVec 32 := Scalar.addi c0_i32_671 v583
  v584.toNat
def k0_dev17 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_703 : BitVec 32 := 1#32
  let v610 : BitVec 32 := Scalar.muli v17 c1_i32_703
  let v611 : BitVec 32 := Scalar.addi c0_i32_704 v610
  v611.toNat
def k0_dev18 (d0 : Dev nD) : Nat :=
  let c0_i32_737 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_736 : BitVec 32 := 1#32
  let v637 : BitVec 32 := Scalar.muli v11 c1_i32_736
  let v638 : BitVec 32 := Scalar.addi c0_i32_737 v637
  v638.toNat
def k0_dev19 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_843 : BitVec 32 := 1#32
  let v722 : BitVec 32 := Scalar.muli v17 c1_i32_843
  let v723 : BitVec 32 := Scalar.addi c0_i32_844 v722
  v723.toNat
def k0_dev20 (d0 : Dev nD) : Nat :=
  let c0_i32_883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_882 : BitVec 32 := 1#32
  let v755 : BitVec 32 := Scalar.muli v11 c1_i32_882
  let v756 : BitVec 32 := Scalar.addi c0_i32_883 v755
  v756.toNat
def k0_dev21 (d0 : Dev nD) : Nat :=
  let c0_i32_916 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_915 : BitVec 32 := 1#32
  let v782 : BitVec 32 := Scalar.muli v17 c1_i32_915
  let v783 : BitVec 32 := Scalar.addi c0_i32_916 v782
  v783.toNat
def k0_dev22 (d0 : Dev nD) : Nat :=
  let c0_i32_949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_948 : BitVec 32 := 1#32
  let v809 : BitVec 32 := Scalar.muli v11 c1_i32_948
  let v810 : BitVec 32 := Scalar.addi c0_i32_949 v809
  v810.toNat
def k0_dev23 (d0 : Dev nD) : Nat :=
  let c0_i32_1056 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_1055 : BitVec 32 := 1#32
  let v894 : BitVec 32 := Scalar.muli v17 c1_i32_1055
  let v895 : BitVec 32 := Scalar.addi c0_i32_1056 v894
  v895.toNat
def k0_dev24 (d0 : Dev nD) : Nat :=
  let c0_i32_1095 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1094 : BitVec 32 := 1#32
  let v927 : BitVec 32 := Scalar.muli v11 c1_i32_1094
  let v928 : BitVec 32 := Scalar.addi c0_i32_1095 v927
  v928.toNat
def k0_dev25 (d0 : Dev nD) : Nat :=
  let c0_i32_1128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_1127 : BitVec 32 := 1#32
  let v954 : BitVec 32 := Scalar.muli v17 c1_i32_1127
  let v955 : BitVec 32 := Scalar.addi c0_i32_1128 v954
  v955.toNat
def k0_dev26 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1160 : BitVec 32 := 1#32
  let v981 : BitVec 32 := Scalar.muli v11 c1_i32_1160
  let v982 : BitVec 32 := Scalar.addi c0_i32_1161 v981
  v982.toNat
def k0_off3 (d0 : Dev nD) : Fin 3 → Nat :=
  let c0_i32_1167 : BitVec 32 := 0#32
  let c0_i32_1172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1166 : BitVec 32 := 512#32
  let v991 : BitVec 32 := Scalar.muli v2 c512_i32_1166
  ![0, 0, v991.toNat]
def k0_off4 (d0 : Dev nD) : Fin 3 → Nat :=
  let c0_i32_1174 : BitVec 32 := 0#32
  let c1024_i32_1179 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1173 : BitVec 32 := 512#32
  let v998 : BitVec 32 := Scalar.muli v2 c512_i32_1173
  ![0, 1024, v998.toNat]
def k0_dev27 (d0 : Dev nD) : Nat :=
  let c0_i32_1257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_1256 : BitVec 32 := 1#32
  let v1052 : BitVec 32 := Scalar.muli v17 c1_i32_1256
  let v1053 : BitVec 32 := Scalar.addi c0_i32_1257 v1052
  v1053.toNat
def k0_dev28 (d0 : Dev nD) : Nat :=
  let c0_i32_1296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1295 : BitVec 32 := 1#32
  let v1085 : BitVec 32 := Scalar.muli v11 c1_i32_1295
  let v1086 : BitVec 32 := Scalar.addi c0_i32_1296 v1085
  v1086.toNat
def k0_dev29 (d0 : Dev nD) : Nat :=
  let c0_i32_1329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.addi v12 c8_i32_6
  let c8_i32_7 : BitVec 32 := 8#32
  let v14 : BitVec 32 := Scalar.remsi v13 c8_i32_7
  let c4_i32_8 : BitVec 32 := 4#32
  let v15 : BitVec 1 := Scalar.cmpi .slt v14 c4_i32_8
  let c11_i32_9 : BitVec 32 := 11#32
  let v16 : BitVec 32 := Scalar.subi c11_i32_9 v14
  let v17 : BitVec 32 := Scalar.select v15 v14 v16
  let c1_i32_1328 : BitVec 32 := 1#32
  let v1112 : BitVec 32 := Scalar.muli v17 c1_i32_1328
  let v1113 : BitVec 32 := Scalar.addi c0_i32_1329 v1112
  v1113.toNat
def k0_dev30 (d0 : Dev nD) : Nat :=
  let c0_i32_1362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.subi v5 c1_i32_0
  let c8_i32_1 : BitVec 32 := 8#32
  let v7 : BitVec 32 := Scalar.addi v6 c8_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1361 : BitVec 32 := 1#32
  let v1139 : BitVec 32 := Scalar.muli v11 c1_i32_1361
  let v1140 : BitVec 32 := Scalar.addi c0_i32_1362 v1139
  v1140.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8x2048x4096 : Shape := ⟨3, ![8, 2048, 4096]⟩
abbrev S_ : Shape := ⟨0, ![]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S_, .f32⟩
  | .hbm, ⟨2, _⟩ => ⟨S2048x4096, .f32⟩
  | .hbm, ⟨3, _⟩ => ⟨S2048x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
  The kernel body with its unrolled steps named: one transfer, one addition, one wait, each written once
  for a direction `d` (`false`: chunks travel to the next device of the ring and hold rows 0–1023; `true`:
  to the previous one, rows 1024–2047), a half `j` of those rows and a hop. The printed body is these
  steps in order.
-/
module

public import proofs.«01_k».proof.Proof.Gen.KernelIdeal
public import proofs.«01_k».proof.Proof.Gen.KernelIdeal.Skeleton
public import proofs.«01_k».proof.Proof.Gen.KernelIdeal.Points

@[expose] public section

set_option maxRecDepth 16384

noncomputable section

namespace Cert.KernelIdeal.Sum

open Idealize.ShloMosaic Idealize.SL.Sem
open Cert.KernelIdeal Cert.KernelIdeal.Gen

variable {F : FTy → Type} [FloatOps F]

/-! ## Buffers, semaphores, rectangles -/

/-- The two buffers a device's blocks of the argument are fetched into, per direction. -/
def xfM : Bool → Memref sig .tc .vmem S2x1024x512 .f32
  | false => Memref.whole cc0_scratch0
  | true => Memref.whole cc0_scratch1
/-- The two buffers partial sums are staged in, per direction. -/
def stM : Bool → Memref sig .tc .vmem S2x1024x512 .bf16
  | false => Memref.whole cc0_scratch2
  | true => Memref.whole cc0_scratch3
/-- The buffer partial sums arrive in, one slot per hop, per direction. -/
def rvM : Bool → Memref sig .tc .vmem S7x1024x512 .bf16
  | false => Memref.whole cc0_scratch4
  | true => Memref.whole cc0_scratch5
/-- The argument's array. -/
abbrev inM : Memref sig .tc .hbm S1x2048x4096 .f32 := Memref.whole main_arg0

/-- The fetches' semaphores, per direction. -/
def fS : Bool → DmaSems sig S2
  | false => cc0_scratch6
  | true => cc0_scratch7
/-- The senders' semaphores, per direction. -/
def sS : Bool → DmaSems sig S2x2
  | false => cc0_scratch8
  | true => cc0_scratch9
/-- The receivers' semaphores, per direction. -/
def rS : Bool → DmaSems sig S7x2
  | false => cc0_scratch10
  | true => cc0_scratch11

theorem stM_whole (d : Bool) : (stM d).IsWhole := by cases d <;> exact Memref.isWhole_whole _
theorem rvM_whole (d : Bool) : (rvM d).IsWhole := by cases d <;> exact Memref.isWhole_whole _

theorem slot_inb (k : Fin 2) : ∀ a, (![k.val, 0, 0] : Fin 3 → Nat) a + S1x1024x512.size a ≤ S2x1024x512.size a := by
  revert k; decide
theorem pc2_inb (k j : Fin 2) : ∀ a, (![k.val, 512 * j.val, 0] : Fin 3 → Nat) a + S1x512x512.size a ≤ S2x1024x512.size a := by
  revert k j; decide
theorem pc7_inb (t : Fin 7) (j : Fin 2) :
    ∀ a, (![t.val, 512 * j.val, 0] : Fin 3 → Nat) a + S1x512x512.size a ≤ S7x1024x512.size a := by
  revert t j; decide
theorem out_inb (d : Bool) (j : Fin 2) :
    ∀ a, (![1024 * (cond d 1 0) + 512 * j.val, 0] : Fin 2 → Nat) a + S512x512.size a ≤ S2048x512.size a := by
  revert d j; decide
theorem fs_inb (k : Fin 2) : ∀ a, (![k.val] : Fin 1 → Nat) a + S1.size a ≤ S2.size a := by revert k; decide
theorem ss_inb (k j : Fin 2) : ∀ a, (![k.val, j.val] : Fin 2 → Nat) a + S1x1.size a ≤ S2x2.size a := by
  revert k j; decide
theorem rs_inb (t : Fin 7) (j : Fin 2) : ∀ a, (![t.val, j.val] : Fin 2 → Nat) a + S1x1.size a ≤ S7x2.size a := by
  revert t j; decide

/-- A fetched block: one slot of `xfM`. -/
abbrev slotR (k : Fin 2) : Rect S2x1024x512 := Rect.unit ![k.val, 0, 0] S1x1024x512.size (slot_inb k)
/-- Half `j` of a slot of `xfM` or `stM`. -/
abbrev pcR (k j : Fin 2) : Rect S2x1024x512 := Rect.unit ![k.val, 512 * j.val, 0] S1x512x512.size (pc2_inb k j)
/-- Half `j` of slot `t` of `rvM`. -/
abbrev rvR (t : Fin 7) (j : Fin 2) : Rect S7x1024x512 := Rect.unit ![t.val, 512 * j.val, 0] S1x512x512.size (pc7_inb t j)
/-- The rows of the result that direction `d`'s half `j` computes. -/
abbrev outR (d : Bool) (j : Fin 2) : Rect S2048x512 :=
  Rect.unit ![1024 * (cond d 1 0) + 512 * j.val, 0] S512x512.size (out_inb d j)

theorem pcR_packed : ∀ k j : Fin 2, (pcR k j).PackedRows (EltTy.packing .bf16) := by decide
theorem pcR_words : ∀ k j : Fin 2, (pcR k j).WholeWords (EltTy.packing .bf16) := by decide
theorem rvR_words : ∀ (t : Fin 7) (j : Fin 2), (rvR t j).WholeWords (EltTy.packing .bf16) := by decide
theorem outR_packed : ∀ (d : Bool) (j : Fin 2), (outR d j).PackedRows (EltTy.packing .bf16) := by decide

/-- The slot hop or fetch `n` uses. -/
abbrev par {N : ℕ} (n : Fin N) : Fin 2 := ⟨n.val % 2, Nat.mod_lt _ (by decide)⟩

/-! ## The ring -/

/-- The device direction `d` sends to. -/
def nbr (d : Bool) (c : Dev nD) : Dev nD :=
  match d with
  | false => ⟨k0_dev3 c, k0_dev3_lt c⟩
  | true => ⟨k0_dev4 c, k0_dev4_lt c⟩

/-- Where fetch `n` of direction `d` starts in the argument's array. -/
def srcOff (d : Bool) (c : Dev nD) (n : Fin 8) : Fin 3 → Nat :=
  match d, n with
  | false, ⟨7, _⟩ => k0_off3 c
  | true, ⟨7, _⟩ => k0_off4 c
  | false, ⟨n, _⟩ => k0_off1 c (BitVec.ofNat 32 n)
  | true, ⟨n, _⟩ => k0_off2 c (BitVec.ofNat 32 n)

theorem src_inb (d : Bool) (c : Dev nD) (n : Fin 8) :
    ∀ a, srcOff d c n a + S1x1024x512.size a ≤ S1x2048x4096.size a := by
  revert d c n; decide +kernel

/-- The block of the argument fetch `n` of direction `d` reads. -/
abbrev srcR (d : Bool) (c : Dev nD) (n : Fin 8) : Rect S1x2048x4096 :=
  Rect.unit (srcOff d c n) S1x1024x512.size (src_inb d c n)

/-! ## Views and semaphores of one step -/

abbrev srcM (d : Bool) (c : Dev nD) (n : Fin 8) : Memref sig .tc .hbm S1024x512 .f32 :=
  (inM.slice (srcR d c n) (fun _ => rfl)).squeeze S1024x512 squeezes_S1x1024x512_S1024x512
abbrev slotM (d : Bool) (k : Fin 2) : Memref sig .tc .vmem S1024x512 .f32 :=
  ((xfM d).slice (slotR k) (fun _ => rfl)).squeeze S1024x512 squeezes_S1x1024x512_S1024x512
abbrev stP (d : Bool) (k j : Fin 2) : Memref sig .tc .vmem S512x512 .bf16 :=
  ((stM d).slice (pcR k j) (fun _ => rfl)).squeeze S512x512 squeezes_S1x512x512_S512x512
abbrev rvP (d : Bool) (t : Fin 7) (j : Fin 2) : Memref sig .tc .vmem S512x512 .bf16 :=
  ((rvM d).slice (rvR t j) (fun _ => rfl)).squeeze S512x512 squeezes_S1x512x512_S512x512

/-- The semaphore of fetch slot `k`. -/
abbrev fSem (d : Bool) (k : Fin 2) : DmaSem sig :=
  (((fS d).slice (Rect.unit (s := S2) ![k.val] S1.size (fs_inb k))).squeeze S_ squeezes_S1_S_).sem
/-- The sender's semaphore of stage slot `k`, half `j`. -/
abbrev sSem (d : Bool) (k j : Fin 2) : DmaSem sig :=
  (((sS d).slice (Rect.unit (s := S2x2) ![k.val, j.val] S1x1.size (ss_inb k j))).squeeze S_ squeezes_S1x1_S_).sem
/-- The receiver's semaphore of hop `t`, half `j`. -/
abbrev rSem (d : Bool) (t : Fin 7) (j : Fin 2) : DmaSem sig :=
  (((rS d).slice (Rect.unit (s := S7x2) ![t.val, j.val] S1x1.size (rs_inb t j))).squeeze S_ squeezes_S1x1_S_).sem
/-- The barrier semaphore. -/
abbrev barSem : Sem sig := ((SemArray.scalar (sig.barrier 0 rfl) : Sems sig S_)).sem

theorem stP_words (d : Bool) (k j : Fin 2) : (stP d k j).view.WordExact :=
  ((stM_whole d).wordExact_slice rfl _ (pcR_words k j)).reshape _ _
theorem rvP_words (d : Bool) (t : Fin 7) (j : Fin 2) : (rvP d t j).view.WordExact :=
  ((rvM_whole d).wordExact_slice rfl _ (rvR_words t j)).reshape _ _

/-! ## The steps -/

variable (F) in
/-- A program of the body. -/
abbrev PG := Prog (TpuEff nD τ sig (Elt F) Λ₀ .tc) PUnit

/-- Fetch `n` of direction `d`, started. -/
def fetchP (c : Dev nD) (d : Bool) (n : Fin 8) : PG F :=
  Prog.lift (.enqueueDma (srcM d c n) (.here (slotM d (par n))) (.dma (fSem d (par n)))
    ((View.wordExact_bits rfl).reshape _ _) ((View.wordExact_bits rfl).reshape _ _) ⟨Or.inl rfl, trivial⟩)

/-- The wait for fetch `n` of direction `d`. -/
def fetchedP (c : Dev nD) (d : Bool) (n : Fin 8) : PG F :=
  Prog.lift (.waitDma2 (fSem d (par n)) (srcM d c n) (slotM d (par n))
    ((View.wordExact_bits rfl).reshape _ _) ((View.wordExact_bits rfl).reshape _ _))

/-- The first block, rounded. -/
def firstVal (v : Vec F S1x512x512 .f32) : FVec F S1x512x512 .bf16 := k0_pay1 v
/-- A partial sum received plus the block of one's own, rounded. -/
def hopVal (v : Vec F S1x512x512 .bf16) (w : Vec F S1x512x512 .f32) : FVec F S1x512x512 .bf16 := k0_pay5 v w
/-- The last partial sum plus the block of one's own, rounded. -/
def outVal (v : Vec F S1x512x512 .bf16) (w : Vec F S1x512x512 .f32) : FVec F S512x512 .bf16 := k0_pay36 v w

/-- What half `j` of stage slot `k` is overwritten with. -/
def putP (d : Bool) (k j : Fin 2) (w : FVec F S1x512x512 .bf16) : PG F := do
  let _ ← Prog.lift (.load (stM d) (pcR k j).toLoadRect (View.loadsAt_vmem h_S1x512x512))
  Prog.lift (.store (stM d) (pcR k j) w Finset.univ
    (View.stores_vmem h_S1x512x512 ((stM_whole d).storeExact_slice rfl _ (pcR_packed k j)) (fun _ => rfl)) (.inl rfl))

/-- The first partial sum staged. -/
def firstP (d : Bool) (j : Fin 2) : PG F := do
  let v ← Prog.lift (.load (xfM d) (pcR 0 j).toLoadRect (View.loadsAt_vmem h_S1x512x512))
  putP d 0 j (firstVal v)

/-- The wait for the partial sum of hop `t`. -/
def recvP (d : Bool) (t : Fin 7) (j : Fin 2) : PG F :=
  Prog.lift (.waitDma2 (rSem d t j) (stP d (par t) j) (rvP d t j) (stP_words d _ j) (rvP_words d t j))

/-- The wait for the sending of hop `t` to have read its slot. -/
def sentP (d : Bool) (t : Fin 7) (j : Fin 2) : PG F :=
  Prog.lift (.waitDma2 (sSem d (par t) j) (rvP d t j) (stP d (par t) j) (rvP_words d t j) (stP_words d _ j))

/-- The sending of hop `t`. -/
def sendP (c : Dev nD) (d : Bool) (t : Fin 7) (j : Fin 2) : PG F :=
  Prog.lift (.enqueueDma (stP d (par t) j) (.remote (Dev.tc (nbr d c)) (rvP d t j) (.dma (sSem d (par t) j)))
    (.dma (rSem d t j)) (stP_words d _ j) (rvP_words d t j) ⟨⟨rfl, Or.inl rfl⟩, trivial⟩)

/-- Hop `t + 1` of one half: the partial sum of hop `t` received, one's own block added, the sum staged and sent. -/
def hopP (c : Dev nD) (d : Bool) (t : Fin 6) (j : Fin 2) : PG F := do
  recvP d t.castSucc j
  let v ← Prog.lift (.load (rvM d) (rvR t.castSucc j).toLoadRect (View.loadsAt_vmem h_S1x512x512))
  let w ← Prog.lift (.load (xfM d) (pcR (par t.succ) j).toLoadRect (View.loadsAt_vmem h_S1x512x512))
  putP d (par t.succ) j (hopVal v w)
  sendP c d t.succ j

/-- Hop `t + 1`. -/
def hopsP (c : Dev nD) (t : Fin 6) : PG F := do
  fetchedP c false t.succ.castSucc
  hopP c false t 0
  fetchedP c true t.succ.castSucc
  hopP c true t 0
  hopP c false t 1
  hopP c true t 1

/-- Both directions' fetch `n`, started. -/
def fetchesP (c : Dev nD) (n : Fin 8) : PG F := do
  fetchP c false n
  fetchP c true n

/-- The waits for everything hop `t` sent. -/
def sentsP (t : Fin 7) : PG F := do
  sentP false t 0
  sentP true t 0
  sentP false t 1
  sentP true t 1

/-- The last partial sum of one half received, one's own block added, the sum stored to the result. -/
def outP (o : Memref sig .tc .vmem S2048x512 .bf16) (ho : o.IsWhole) (d : Bool) (j : Fin 2) : PG F := do
  recvP d 6 j
  let v ← Prog.lift (.load (rvM d) (rvR 6 j).toLoadRect (View.loadsAt_vmem h_S1x512x512))
  let w ← Prog.lift (.load (xfM d) (pcR 1 j).toLoadRect (View.loadsAt_vmem h_S1x512x512))
  let _ ← Prog.lift (.load o (outR d j).toLoadRect (View.loadsAt_vmem h_S512x512))
  Prog.lift (.store o (outR d j) (outVal v w) Finset.univ
    (View.stores_vmem h_S512x512 (ho.storeExact_slice rfl _ (outR_packed d j)) (fun _ => rfl)) (.inl rfl))

/-- The body's steps up to the first sendings. -/
def startP (c : Dev nD) : PG F := do
  fetchesP c 0
  fetchesP c 1
  semSignalWord (nbr true c) barSem 1#32
  semSignalWord (nbr false c) barSem 1#32
  fetchedP c false 0
  fetchedP c true 0
  firstP false 0
  firstP true 0
  firstP false 1
  firstP true 1
  semWaitWord barSem 2#32
  sendP c false 0 0
  sendP c true 0 0
  sendP c false 0 1
  sendP c true 0 1
  fetchesP c 2

/-- Hop `t + 1` with what surrounds it in the middle of the ring's round: the slots it will stage into are free
    once the sendings of hop `t - 1` are done, and the next fetch follows it. -/
def midP (c : Dev nD) (t : Fin 4) : PG F := do
  sentsP ⟨t.val, by omega⟩
  hopsP c ⟨t.val + 1, by omega⟩
  fetchesP c ⟨t.val + 4, by omega⟩

/-- The body's steps after the last sendings. -/
def endP (c : Dev nD) (o : Memref sig .tc .vmem S2048x512 .bf16) (ho : o.IsWhole) : PG F := do
  fetchedP c false 7
  fetchedP c true 7
  outP o ho false 0
  outP o ho true 0
  outP o ho false 1
  outP o ho true 1
  sentsP 5
  sentsP 6

/-- The body's steps, on device `c`. -/
def bodyP (c : Dev nD) (o : Memref sig .tc .vmem S2048x512 .bf16) (ho : o.IsWhole) : PG F := do
  startP c
  hopsP c 0
  fetchesP c 3
  midP c 0
  midP c 1
  midP c 2
  midP c 3
  sentsP 4
  hopsP c 5
  endP c o ho

end Cert.KernelIdeal.Sum

end
-- ==== Proof.Held.lean ====
/-
  Ownership of part of a buffer, by what it holds: `held c m S q X` is device `c`'s share `q` of the elements
  `S` of the memref `m`, which read as `X` there. The rules for a load, a store and the pieces a transfer
  moves are stated over it.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

/-! ## The resource algebra: the pipeline's rounds, the ring's, and the local transfers' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right factor. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## Part of a buffer -/

theorem emb_mem {s : Shape} (r : Rect s) (j : r.shape.Idx) : r.emb j ∈ r.set :=
  r.map_emb_univ ▸ Finset.mem_map_of_mem _ (Finset.mem_univ j)

theorem exists_emb {s : Shape} {r : Rect s} {i : s.Idx} (h : i ∈ r.set) : ∃ j, r.emb j = i := by
  rw [← r.map_emb_univ] at h
  obtain ⟨j, -, e⟩ := Finset.mem_map.mp h
  exact ⟨j, e⟩

section Held

variable (c : Dev nD) {sp : Space} {s : Shape} {e : EltTy} (m : Memref sig .tc sp s e)

/-- Device `c`'s share `q` of the elements `S` of `m`, which read as `X`. -/
def held (S : Finset s.Idx) (q : PosShare TreeShare) (X : s.Idx → Elt F e) : sProp 𝕄 :=
  iprop(∃ f : Buf (Elt F) (m.view.loc (c : Thread nD τ)), ⌜∀ i ∈ S, m.view.read (Elt F) f i = X i⌝
    ∗ (m.view.loc (c : Thread nD τ) ↦[m.view.setOn S]{q} f))

/-- The same at contents not stated. -/
def heldAny (S : Finset s.Idx) : sProp 𝕄 :=
  iprop(∃ f : Buf (Elt F) (m.view.loc (c : Thread nD τ)), m.view.loc (c : Thread nD τ) ↦[m.view.setOn S]{fullShare} f)

instance held_storable (S : Finset s.Idx) (q : PosShare TreeShare) (X : s.Idx → Elt F e) :
    BI.Storable (upEmb : UEmb _ 𝕄) (held c m S q X) := by unfold held; infer_instance
instance heldAny_storable (S : Finset s.Idx) :
    BI.Storable (upEmb : UEmb _ 𝕄) (heldAny (F := F) c m S) := by unfold heldAny; infer_instance

variable {S T : Finset s.Idx} {q : PosShare TreeShare} {X Y : s.Idx → Elt F e}

theorem held_any : held c m S fullShare X ⊢ (heldAny c m S : sProp 𝕄) := by
  unfold held heldAny; iintro ⟨%f, -, H⟩; iexists f; iexact H

/-- Contents are stated on the elements held only. -/
theorem held_congr (h : ∀ i ∈ S, X i = Y i) : held c m S q X ⊢ (held c m S q Y : sProp 𝕄) := by
  unfold held; iintro ⟨%f, %hf, H⟩; iexists f
  isplitr; · ipureintro; exact fun i hi => (hf i hi).trans (h i hi)
  iexact H

theorem setOn_disjoint (h : Disjoint S T) : Disjoint (m.view.setOn S) (m.view.setOn T) :=
  (Finset.disjoint_map _).mpr h

/-- Disjoint parts are held apart, -/
theorem held_split (h : Disjoint S T) : held c m (S ∪ T) q X ⊢ (iprop(held c m S q X ∗ held c m T q X) : sProp 𝕄) := by
  unfold held
  iintro ⟨%f, %hf, H⟩
  rw [show m.view.setOn (S ∪ T) = m.view.setOn S ∪ m.view.setOn T from Finset.map_union ..]
  ihave H := (pointsTo_union (setOn_disjoint m h)).1 $$ H
  icases H with ⟨H1, H2⟩
  isplitl [H1]
  · iexists f
    isplitr; · ipureintro; exact fun i hi => hf i (Finset.mem_union_left _ hi)
    iexact H1
  · iexists f
    isplitr; · ipureintro; exact fun i hi => hf i (Finset.mem_union_right _ hi)
    iexact H2

/-- and together again. -/
theorem held_join (h : Disjoint S T) : iprop(held c m S q X ∗ held c m T q X) ⊢ (held c m (S ∪ T) q X : sProp 𝕄) := by
  unfold held
  iintro ⟨⟨%f, %hf, H1⟩, ⟨%g, %hg, H2⟩⟩
  iexists (m.view.setOn T).piecewise g f
  isplitr
  · ipureintro
    intro i hi
    by_cases hT : i ∈ T
    · rw [← hg i hT]
      exact View.read_congr_at (v := m.view) i (Finset.piecewise_eq_of_mem _ _ _ (Finset.mem_map_of_mem _ hT))
    · rw [← hf i ((Finset.mem_union.mp hi).resolve_right hT)]
      exact View.read_congr_at (v := m.view) i (Finset.piecewise_eq_of_notMem _ _ _ (fun h' => hT ((Finset.mem_map' _).mp h')))
  · rw [show m.view.setOn (S ∪ T) = m.view.setOn S ∪ m.view.setOn T from Finset.map_union ..]
    iapply (pointsTo_join (setOn_disjoint m h))
    isplitl [H1] <;> iassumption

/-- A part of what is held, and the rest of it. -/
theorem held_carve (h : T ⊆ S) : held c m S q X ⊢ (iprop(held c m T q X ∗ held c m (S \ T) q X) : sProp 𝕄) := by
  have e : S = T ∪ S \ T := (Finset.union_sdiff_of_subset h).symm
  conv_lhs => rw [e]
  exact held_split c m Finset.disjoint_sdiff

theorem held_uncarve (h : T ⊆ S) : iprop(held c m T q X ∗ held c m (S \ T) q X) ⊢ (held c m S q X : sProp 𝕄) := by
  have e : S = T ∪ S \ T := (Finset.union_sdiff_of_subset h).symm
  conv_rhs => rw [e]
  exact held_join c m Finset.disjoint_sdiff

end Held

/-! ## Loads and stores -/

section Access

variable {α : Type} (c : Dev nD) {cs : CoreSpace} {s : Shape} {e : EltTy} {m : Memref sig .tc cs s e}

/-- A load of elements held reads what they hold. -/
theorem wp_load_held {Q : α → sProp (MT nD τ sig Unit (Elt F) ℕ UU ℕ)} {r : Rect s} {hl : m.view.LoadsAt r.toLoadRect}
    {k : (r.shape.Idx → Elt F e) → Prog (TpuEff nD τ sig (Elt F) Λ₀ .tc) α}
    {S : Finset s.Idx} {q : PosShare TreeShare} {X : s.Idx → Elt F e} (hS : r.set ⊆ S) :
    held c m S q X
      ⊢ iprop((held c m S q X -∗ wp frame (wpE (defs₀ (F := F)) 𝒱₀ (c : Thread nD τ) none) Set.univ (k fun j => X (r.emb j)) Q)
        -∗ wp frame (wpE (defs₀ (F := F)) 𝒱₀ (c : Thread nD τ) none) Set.univ (.op (.load m r.toLoadRect hl) k) Q) := by
  unfold held
  iintro ⟨%f, %hf, H⟩ Hk
  iapply (wp_load 𝒱₀ (c : Thread nD τ) none Set.univ (m := m) (S := m.view.setOn S) (f := f) (Finset.map_subset_map.mpr hS)) $$ H
  iintro H
  have e : m.view.readAt (Elt F) r.toLoadRect f = fun j => X (r.emb j) :=
    funext fun j => hf (r.emb j) (hS (emb_mem r j))
  rw [e]
  iapply Hk
  iexists f
  isplitr; · ipureintro; exact hf
  iexact H

/-- A load of elements held at contents not stated. -/
theorem wp_load_any {Q : α → sProp (MT nD τ sig Unit (Elt F) ℕ UU ℕ)} {r : Rect s} {hl : m.view.LoadsAt r.toLoadRect}
    {k : (r.shape.Idx → Elt F e) → Prog (TpuEff nD τ sig (Elt F) Λ₀ .tc) α} :
    heldAny c m r.set
      ⊢ iprop((∀ w, heldAny c m r.set -∗ wp frame (wpE (defs₀ (F := F)) 𝒱₀ (c : Thread nD τ) none) Set.univ (k w) Q)
        -∗ wp frame (wpE (defs₀ (F := F)) 𝒱₀ (c : Thread nD τ) none) Set.univ (.op (.load m r.toLoadRect hl) k) Q) := by
  unfold heldAny
  iintro ⟨%f, H⟩ Hk
  iapply (wp_load 𝒱₀ (c : Thread nD τ) none Set.univ (m := m) (S := m.view.setOn r.set) (f := f) (subset_refl _)) $$ H
  iintro H
  iapply Hk
  iexists f
  iexact H

/-- A store to a rectangle held: it holds what was stored. -/
theorem wp_store_held {Q : α → sProp (MT nD τ sig Unit (Elt F) ℕ UU ℕ)} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} {Y : s.Idx → Elt F e} (hY : ∀ j, Y (r.emb j) = w j) :
    heldAny c m r.set
      ⊢ iprop((held c m r.set fullShare Y -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold heldAny held
  iintro ⟨%f, H⟩ Hk
  have hs : m.view.setOn r.set = (m.access r).set := (View.set_slice _ r).symm
  rw [hs]
  iapply (wp_store 𝒱₀ (c : Thread nD τ) none Set.univ (m := m) (r := r) (w := w) (Mk := Finset.univ) (S := (m.access r).set)
    (f := f) (hx := hx) (hm := hm) (subset_refl _)) $$ H
  iintro H
  iapply Hk
  iexists ((m.access r).write (Elt F) f w Finset.univ)
  isplitr
  · ipureintro
    intro i hi
    obtain ⟨j, rfl⟩ := exists_emb hi
    rw [hY]
    exact View.read_slice_write_emb (v := m.view) r f w (Finset.mem_univ j)
  · iexact H

end Access

/-! ## Pieces: a slice squeezed -/

section Piece

variable (c : Dev nD) {sp : Space} {s s' : Shape} {e : EltTy} (m : Memref sig .tc sp s e) (r : Rect s)
  (hr : ∀ a, r.stride a = 1) (h : r.shape.Squeezes s')

theorem piece_set : ((m.slice r hr).squeeze s' h).view.set = m.view.setOn r.set :=
  (View.set_reshape (v := (m.slice r hr).view) h.numel_eq).trans (View.set_slice m.view r)

theorem piece_read (f : m.view.ty.Contents (Elt F)) (x : s'.Idx) :
    ((m.slice r hr).squeeze s' h).view.read (Elt F) f x
      = m.view.read (Elt F) f (r.emb (Shape.reshapeEquiv h.numel_eq x)) := rfl

variable {q : PosShare TreeShare} {X : s.Idx → Elt F e}

/-- A rectangle held, as the transfer's operand the slice is: -/
theorem held_to_piece : held c m r.set q X
    ⊢ (iprop(∃ f : Buf (Elt F) (m.view.loc (c : Thread nD τ)),
        ⌜∀ x : s'.Idx, ((m.slice r hr).squeeze s' h).view.read (Elt F) f x = X (r.emb (Shape.reshapeEquiv h.numel_eq x))⌝
        ∗ (((m.slice r hr).squeeze s' h).view.loc (c : Thread nD τ) ↦[((m.slice r hr).squeeze s' h).view.set]{q} f)) : sProp 𝕄) := by
  unfold held
  iintro ⟨%f, %hf, H⟩
  iexists f
  isplitr
  · ipureintro; intro x; rw [piece_read]; exact hf _ (emb_mem r _)
  · rw [piece_set]; iexact H

theorem any_to_piece : heldAny c m r.set
    ⊢ (iprop(∃ f : Buf (Elt F) (m.view.loc (c : Thread nD τ)),
        (((m.slice r hr).squeeze s' h).view.loc (c : Thread nD τ) ↦[((m.slice r hr).squeeze s' h).view.set]{fullShare} f)) : sProp 𝕄) := by
  unfold heldAny
  iintro ⟨%f, H⟩
  iexists f
  rw [piece_set]; iexact H

/-- and back, at what it reads. -/
theorem piece_to_held (f : Buf (Elt F) (m.view.loc (c : Thread nD τ)))
    (hf : ∀ x : s'.Idx, ((m.slice r hr).squeeze s' h).view.read (Elt F) f x = X (r.emb (Shape.reshapeEquiv h.numel_eq x))) :
    (((m.slice r hr).squeeze s' h).view.loc (c : Thread nD τ) ↦[((m.slice r hr).squeeze s' h).view.set]{q} f : sProp 𝕄)
      ⊢ held c m r.set q X := by
  unfold held
  iintro H
  iexists f
  isplitr
  · ipureintro
    intro i hi
    obtain ⟨y, rfl⟩ := exists_emb hi
    have := hf ((Shape.reshapeEquiv h.numel_eq).symm y)
    rw [piece_read, Equiv.apply_symm_apply] at this
    exact this
  · rw [piece_set]; iexact H

end Piece

end Cert.KernelIdeal.Sum

end
-- ==== Proof.Contents.lean ====
/-
  What the buffers hold: the blocks of the argument fetched, the partial sums going round the ring, the result.
  The values are stated by row and lane of a block of 1024 rows and 512 lanes.
-/
module

public import proofs.«01_k».proof.Proof.Program
public import Idealize.ShloMosaic.Lib.Pipeline.Value

@[expose] public section

set_option maxRecDepth 16384

noncomputable section

namespace Cert.KernelIdeal.Sum

open Idealize.ShloMosaic
open Cert.KernelIdeal Cert.KernelIdeal.Gen

variable {F : FTy → Type} [FloatOps F]

/-- The sender whose direction-`d` neighbour is `c`. -/
abbrev prev (d : Bool) (c : Dev nD) : Dev nD := nbr (!d) c

theorem nbr_prev (d : Bool) (c : Dev nD) : nbr d (prev d c) = c := by
  revert d c; decide +kernel
theorem prev_nbr (d : Bool) (c : Dev nD) : prev d (nbr d c) = c := by
  revert d c; decide +kernel

/-- Row `r`, lane `l` of a block. -/
def blkIx (r : Fin 1024) (l : Fin 512) : S1x1024x512.Idx := fun a =>
  ⟨(![0, r.val, l.val] : Fin 3 → ℕ) a, by
    have := r.isLt; have := l.isLt
    fin_cases a
    · exact (by decide : 0 < 1)
    · assumption
    · assumption⟩

/-- The block fetch `s` reads. -/
abbrev fetchIx (s : ℕ) : Fin 8 := ⟨s % 8, Nat.mod_lt _ (by decide)⟩

section Values

variable (X : Dev nD → S1x2048x4096.Idx → F .f32)

/-- Fetch `n` of direction `d` on device `c`, by row and lane. -/
def blk (d : Bool) (n : Fin 8) (c : Dev nD) (r : Fin 1024) (l : Fin 512) : F .f32 :=
  X c ((srcR d c n).emb (blkIx r l))

/-- The partial sum device `c` sends at hop `s` of direction `d`: the one received, plus one's own block rounded. -/
def acc (d : Bool) : ℕ → Dev nD → Fin 1024 → Fin 512 → F .bf16
  | 0, c, r, l => FloatOps.truncf .bf16 bitsLt_bf16_f32 (blk X d (fetchIx 0) c r l)
  | s + 1, c, r, l => FloatOps.addf (acc d s (prev d c) r l)
      (FloatOps.truncf .bf16 bitsLt_bf16_f32 (blk X d (fetchIx (s + 1)) c r l))

/-- The total of direction `d`: the last partial sum, plus one's own block, rounded. -/
def total (d : Bool) (c : Dev nD) (r : Fin 1024) (l : Fin 512) : F .bf16 :=
  FloatOps.truncf .bf16 bitsLt_bf16_f32
    (FloatOps.addf (FloatOps.extf .f32 bitsLt_bf16_f32 (acc X d 6 (prev d c) r l)) (blk X d 7 c r l))

/-- A slot of fetched values. -/
def XF (d : Bool) (n : Fin 8) (c : Dev nD) : S2x1024x512.Idx → F .f32 := fun i => blk X d n c (i 1) (i 2)
/-- A slot of staged sums. -/
def ST (d : Bool) (s : ℕ) (c : Dev nD) : S2x1024x512.Idx → F .bf16 := fun i => acc X d s c (i 1) (i 2)
/-- A slot of received sums. -/
def RV (d : Bool) (s : ℕ) (c : Dev nD) : S7x1024x512.Idx → F .bf16 := fun i => acc X d s (prev d c) (i 1) (i 2)
/-- The result. -/
def OUT (c : Dev nD) : S2048x512.Idx → F .bf16 := fun i =>
  total X (decide (1024 ≤ (i 0).val)) c ⟨(i 0).val % 1024, Nat.mod_lt _ (by decide)⟩ (i 1)

end Values

/-! ## What a step computes, element by element -/

theorem firstVal_apply (v : Vec F S1x512x512 .f32) (y : S1x512x512.Idx) :
    firstVal v y = FloatOps.truncf .bf16 bitsLt_bf16_f32 (v y) := by
  simp only [firstVal, k0_pay1, shapeCast, truncf, Shape.reshapeEquiv_reshapeEquiv, Shape.reshapeEquiv_self]

theorem hopVal_apply (v : Vec F S1x512x512 .bf16) (w : Vec F S1x512x512 .f32) (y : S1x512x512.Idx) :
    hopVal v w y = FloatOps.addf (v y) (FloatOps.truncf .bf16 bitsLt_bf16_f32 (w y)) := by
  simp only [hopVal, k0_pay5, shapeCast, truncf, addf, Shape.reshapeEquiv_reshapeEquiv, Shape.reshapeEquiv_self]

/-- The index of a half at a row and lane of it. -/
def pcIx (y : S512x512.Idx) : S1x512x512.Idx := Fin.cons ⟨0, Nat.one_pos⟩ y

theorem outVal_apply (v : Vec F S1x512x512 .bf16) (w : Vec F S1x512x512 .f32) (y : S512x512.Idx) :
    outVal v w y = FloatOps.truncf .bf16 bitsLt_bf16_f32
      (FloatOps.addf (FloatOps.extf .f32 bitsLt_bf16_f32 (v (pcIx y))) (w (pcIx y))) := by
  have e : pcIx y = Shape.reshapeEquiv shapeCasts_S1x512x512_S512x512 y := (Shape.reshapeEquiv_cons_one _ y).symm
  rw [e]; rfl

/-! ## The contents at the indices the steps move -/

theorem XF_src (X : Dev nD → S1x2048x4096.Idx → F .f32) (d : Bool) (n : Fin 8) (c : Dev nD) (k : Fin 2) (z : S1x1024x512.Idx) :
    XF X d n c ((slotR k).emb z) = X c ((srcR d c n).emb z) := by
  unfold XF blk
  congr 2
  funext a
  apply Fin.ext
  fin_cases a
  · exact (Nat.lt_one_iff.mp (z 0).isLt).symm
  · exact (Nat.zero_add _).trans (Nat.one_mul _)
  · exact (Nat.zero_add _).trans (Nat.one_mul _)

/-- A half sent from the stage slot `k` arrives as the receiver's. -/
theorem RV_ST (X : Dev nD → S1x2048x4096.Idx → F .f32) (d : Bool) (s : ℕ) (c : Dev nD) (k j : Fin 2) (t : Fin 7) (z : S1x512x512.Idx) :
    ST X d s c ((pcR k j).emb z) = RV X d s (nbr d c) ((rvR t j).emb z) := by
  unfold RV ST; rw [prev_nbr]; rfl

theorem ST_zero (X : Dev nD → S1x2048x4096.Idx → F .f32) (d : Bool) (c : Dev nD) (j : Fin 2) (z : S1x512x512.Idx) :
    ST X d 0 c ((pcR 0 j).emb z) = firstVal (fun y => XF X d 0 c ((pcR 0 j).emb y)) z := by
  rw [firstVal_apply]; rfl

theorem ST_succ (X : Dev nD → S1x2048x4096.Idx → F .f32) (d : Bool) (c : Dev nD) (j k : Fin 2) (t : Fin 6) (z : S1x512x512.Idx) :
    ST X d t.succ.val c ((pcR k j).emb z) = hopVal (fun y => RV X d t.castSucc.val c ((rvR t.castSucc j).emb y))
      (fun y => XF X d t.succ.castSucc c ((pcR k j).emb y)) z := by
  rw [hopVal_apply]
  unfold ST RV XF
  rw [show (t.succ.castSucc : Fin 8) = fetchIx (t.val + 1) from
    Fin.ext (Nat.mod_eq_of_lt (by have := t.isLt; omega : t.val + 1 < 8)).symm]
  rfl

theorem OUT_piece (X : Dev nD → S1x2048x4096.Idx → F .f32) (d : Bool) (c : Dev nD) (j : Fin 2) (y : S512x512.Idx) :
    OUT X c ((outR d j).emb y) = outVal (fun y => RV X d 6 c ((rvR 6 j).emb y)) (fun y => XF X d 7 c ((pcR 1 j).emb y)) y := by
  rw [outVal_apply]
  have e0 : (((outR d j).emb y) 0).val = 1024 * (cond d 1 0) + 512 * j.val + 1 * (y 0).val := rfl
  have hy : (y 0).val < 512 := (y 0).isLt
  have hj := j.isLt
  have hd : decide (1024 ≤ (((outR d j).emb y) 0).val) = d := by
    rw [e0]; cases d
    · exact decide_eq_false (by simp only [cond_false]; omega)
    · exact decide_eq_true (by simp only [cond_true]; omega)
  have hr : (((outR d j).emb y) 0).val % 1024 = 512 * j.val + 1 * (y 0).val := by
    rw [e0]; cases d
    · simp only [cond_false]; omega
    · simp only [cond_true]; omega
  have er : (⟨(((outR d j).emb y) 0).val % 1024, Nat.mod_lt _ (by decide)⟩ : Fin 1024)
      = ((pcR 1 j).emb (pcIx y)) 1 := Fin.ext hr
  have el : ((outR d j).emb y) 1 = ((pcR 1 j).emb (pcIx y)) 2 := rfl
  unfold OUT
  rw [hd, er, el]
  rfl

end Cert.KernelIdeal.Sum

end
-- ==== Proof.Ring.lean ====
/-
  The protocol of the ring. Each device has a barrier cell, a cell for every slot and half it sends from, and a
  cell for every hop and half it receives: `rd` says, round by round, who pays units into a cell and what they
  hand over with it. A device first hands its neighbours the buffers they will write; a sender's cell gives the
  half back once it has been read; a receiver's cell gives the partial sum that arrived, by value.
-/
module

public import proofs.«01_k».proof.Proof.Held
public import proofs.«01_k».proof.Proof.Contents

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

/-! ## The cells -/

/-- One half of one direction. -/
abbrev Lane : Type := Fin 2 × Bool
/-- The cells of a device: the barrier's; the senders', by slot; the receivers', by hop. -/
abbrev Key : Type := Unit ⊕ (Fin 2 × Lane) ⊕ (Fin 7 × Lane)
instance senders_decEq : DecidableEq ((Fin 2 × Lane) ⊕ (Fin 7 × Lane)) := inferInstance
instance key_decEq : DecidableEq Key := inferInstance
abbrev kBar : Key := .inl ()
abbrev kSnd (k : Fin 2) (x : Lane) : Key := .inr (.inl (k, x))
abbrev kRcv (t : Fin 7) (x : Lane) : Key := .inr (.inr (t, x))

/-- The semaphore of a cell, -/
abbrev semOf : Key → SemLoc sig
  | .inl _ => .reg barSem
  | .inr (.inl (k, j, d)) => .dma (sSem d k j)
  | .inr (.inr (t, j, d)) => .dma (rSem d t j)

/-- and the cell of a semaphore: the senders' eight come after the staging semaphore and the four fetches', the
    receivers' twenty-eight after those. -/
def keyOf : SemLoc sig → Option Key
  | .reg _ => some kBar
  | .dma s =>
    if s.val < 5 then none
    else if s.val < 13 then some (kSnd ⟨(s.val - 5) / 2 % 2, Nat.mod_lt _ (by decide)⟩
      (⟨(s.val - 5) % 2, Nat.mod_lt _ (by decide)⟩, decide (9 ≤ s.val)))
    else some (kRcv ⟨(s.val - 13) / 2 % 7, Nat.mod_lt _ (by decide)⟩
      (⟨(s.val - 13) % 2, Nat.mod_lt _ (by decide)⟩, decide (27 ≤ s.val)))

theorem keyOf_semOf (x : Key) : keyOf (semOf x) = some x := by
  rcases x with _ | ⟨k, j, d⟩ | ⟨t, j, d⟩
  · rfl
  · fin_cases k <;> fin_cases j <;> cases d <;> rfl
  · fin_cases t <;> fin_cases j <;> cases d <;> rfl
theorem keyOf_fSem (d : Bool) (k : Fin 2) : keyOf (.dma (fSem d k)) = none := by
  fin_cases k <;> cases d <;> rfl

abbrev cellAt (c : Dev nD) (x : Key) : GSem nD τ sig := ((c : Thread nD τ), semOf x)

theorem semOf_injective : Function.Injective semOf := fun x y h => by
  have := congrArg keyOf h
  rw [keyOf_semOf, keyOf_semOf] at this
  exact Option.some.inj this

theorem cellAt_injective : Function.Injective fun p : Dev nD × Key => cellAt p.1 p.2 := by
  rintro ⟨c, x⟩ ⟨c', x'⟩ h
  have h1 : c = c' := congrArg (fun g : GSem nD τ sig => g.1.1) h
  have h2 : x = x' := semOf_injective (congrArg (fun g : GSem nD τ sig => g.2) h)
  rw [h1, h2]

/-- What a half's transfer credits. -/
def NB : ℕ := (rvP false 0 0).view.dmaCredit
theorem NB_pos : 0 < NB := View.dmaCredit_pos _ (by decide)
theorem credit_rvP (d : Bool) (t : Fin 7) (j : Fin 2) : (rvP d t j).view.dmaCredit = NB := by cases d <;> rfl
theorem credit_stP (d : Bool) (k j : Fin 2) : (stP d k j).view.dmaCredit = NB := by cases d <;> rfl

/-! ## The schedule -/

/-- The buffer a device's direction-`d` sender writes: all its slots' halves. -/
def handed (d : Bool) (c : Dev nD) : sProp 𝕄 :=
  bigSep Finset.univ fun t : Fin 7 => iprop(heldAny c (rvM d) (rvR t 0).set ∗ heldAny c (rvM d) (rvR t 1).set)

instance handed_storable (d : Bool) (c : Dev nD) : BI.Storable (upEmb : UEmb _ 𝕄) (handed (F := F) d c) := by
  unfold handed; infer_instance

/-- How many hops are sent from slot `k`. -/
def rounds (k : Fin 2) : ℕ := if k = 0 then 4 else 3

section Sched

variable (X : Dev nD → S1x2048x4096.Idx → F .f32)

/-- A barrier cell has one round of two units: unit `d` is paid by the device that direction `d` sends to, with its
    buffer. A sender's cell has a round for each hop sent from its slot, a receiver's a single one. -/
def rd : Schedule (GSem nD τ sig) Bool 𝕄 where
  duties g r := match keyOf g.2 with
    | some (.inl _) => if r = 0 then Finset.univ else ∅
    | some (.inr (.inl (k, _))) => if r < rounds k then {false} else ∅
    | some (.inr (.inr _)) => if r = 0 then {false} else ∅
    | none => ∅
  amount g _ _ := match keyOf g.2 with
    | some (.inl _) => 1
    | _ => NB
  payload g _ d := match keyOf g.2 with
    | some (.inl _) => handed d (nbr d g.1.1)
    | some (.inr (.inl (k, j, d'))) => heldAny g.1.1 (stM d') (pcR k j).set
    | some (.inr (.inr (t, j, d'))) => held g.1.1 (rvM d') (rvR t j).set fullShare (RV X d' t.val g.1.1)
    | none => iprop(emp)
  amount_pos g _ _ _ := by
    split
    · exact Nat.one_pos
    · exact NB_pos

instance rd_payload_storable (g : GSem nD τ sig) (r : ℕ) (d : Bool) :
    BI.Storable (upEmb : UEmb _ 𝕄) ((rd (F := F) X).payload g r d) := by
  unfold rd; dsimp only; split <;> infer_instance

variable (c : Dev nD)

theorem duties_bar : (rd X).duties (cellAt c kBar) 0 = (Finset.univ : Finset Bool) := rfl
theorem duties_snd (k : Fin 2) (x : Lane) {r : ℕ} (h : r < rounds k) : (rd X).duties (cellAt c (kSnd k x)) r = {false} := by
  unfold rd; dsimp only; rw [keyOf_semOf]; exact if_pos h
theorem duties_rcv (t : Fin 7) (x : Lane) : (rd X).duties (cellAt c (kRcv t x)) 0 = {false} := by
  unfold rd; dsimp only; rw [keyOf_semOf]; exact if_pos rfl

theorem mem_snd (k : Fin 2) (x : Lane) {r : ℕ} (h : r < rounds k) : false ∈ (rd X).duties (cellAt c (kSnd k x)) r := by
  rw [duties_snd X c k x h]; exact Finset.mem_singleton_self _
theorem mem_rcv (t : Fin 7) (x : Lane) : false ∈ (rd X).duties (cellAt c (kRcv t x)) 0 := by
  rw [duties_rcv]; exact Finset.mem_singleton_self _

/-- The rounds of a cell. -/
def lastOf : Key → ℕ
  | .inl _ => 1
  | .inr (.inl (k, _)) => rounds k
  | .inr (.inr _) => 1

theorem duties_last (x : Key) : ∀ r, lastOf x ≤ r → (rd X).duties (cellAt c x) r = ∅ := by
  intro r hr
  unfold rd; dsimp only; rw [keyOf_semOf]
  rcases x with _ | ⟨k, x⟩ | ⟨t, x⟩
  · exact if_neg (by have : 1 ≤ r := hr; omega)
  · exact if_neg (Nat.not_lt.mpr hr)
  · exact if_neg (by have : 1 ≤ r := hr; omega)

theorem amount_bar (d : Bool) : (rd X).amount (cellAt c kBar) 0 d = 1 := rfl
theorem amount_snd (k : Fin 2) (x : Lane) (r : ℕ) (d : Bool) : (rd X).amount (cellAt c (kSnd k x)) r d = NB := by
  unfold rd; dsimp only; rw [keyOf_semOf]
theorem amount_rcv (t : Fin 7) (x : Lane) (r : ℕ) (d : Bool) : (rd X).amount (cellAt c (kRcv t x)) r d = NB := by
  unfold rd; dsimp only; rw [keyOf_semOf]

theorem expect_bar : (rd X).expect (cellAt c kBar) 0 = 2 := by
  unfold Schedule.expect Schedule.amountOf; rw [duties_bar]; rfl
theorem expect_snd (k : Fin 2) (x : Lane) {r : ℕ} (h : r < rounds k) : (rd X).expect (cellAt c (kSnd k x)) r = NB := by
  unfold Schedule.expect Schedule.amountOf; rw [duties_snd X c k x h, Finset.sum_singleton, amount_snd]
theorem expect_rcv (t : Fin 7) (x : Lane) : (rd X).expect (cellAt c (kRcv t x)) 0 = NB := by
  unfold Schedule.expect Schedule.amountOf; rw [duties_rcv, Finset.sum_singleton, amount_rcv]

theorem payload_bar (d : Bool) : (rd X).payload (cellAt c kBar) 0 d = handed d (nbr d c) := rfl
theorem payload_snd (k j : Fin 2) (d : Bool) (r : ℕ) (b : Bool) :
    (rd X).payload (cellAt c (kSnd k (j, d))) r b = heldAny c (stM d) (pcR k j).set := by
  unfold rd; dsimp only; rw [keyOf_semOf]
theorem payload_rcv (t : Fin 7) (j : Fin 2) (d : Bool) (r : ℕ) (b : Bool) :
    (rd X).payload (cellAt c (kRcv t (j, d))) r b = held c (rvM d) (rvR t j).set fullShare (RV X d t.val c) := by
  unfold rd; dsimp only; rw [keyOf_semOf]

theorem rest_bar : bigSep ((rd X).duties (cellAt c kBar) 0 \ ∅) (fun d => (rd X).payload (cellAt c kBar) 0 d)
    = iprop(handed false (nbr false c) ∗ handed true (nbr true c)) := by
  rw [Finset.sdiff_empty, duties_bar, bigSep_univ_eq_bigSepL [false, true] (by decide) (by decide), bigSepL_cons_cons, bigSepL_singleton]
  rfl
theorem rest_snd (k j : Fin 2) (d : Bool) {r : ℕ} (h : r < rounds k) :
    bigSep ((rd X).duties (cellAt c (kSnd k (j, d))) r \ ∅) (fun b => (rd X).payload (cellAt c (kSnd k (j, d))) r b)
      = heldAny c (stM d) (pcR k j).set := by
  rw [Finset.sdiff_empty, duties_snd X c k _ h, bigSep_singleton, payload_snd]
theorem rest_rcv (t : Fin 7) (j : Fin 2) (d : Bool) :
    bigSep ((rd X).duties (cellAt c (kRcv t (j, d))) 0 \ ∅) (fun b => (rd X).payload (cellAt c (kRcv t (j, d))) 0 b)
      = held c (rvM d) (rvR t j).set fullShare (RV X d t.val c) := by
  rw [Finset.sdiff_empty, duties_rcv, bigSep_singleton, payload_rcv]

end Sched

/-! ## What a device owes, and when it may wait -/

/-- What a device pays: a unit to the device that sends to it in direction `d`, or the partial sum of a hop. -/
abbrev Item : Type := Bool ⊕ (Fin 7 × Lane)

/-- Who is paid, -/
abbrev dest (c : Dev nD) : Item → GSem nD τ sig
  | .inl d => cellAt (prev d c) kBar
  | .inr (t, j, d) => cellAt (nbr d c) (kRcv t (j, d))
/-- and how much. -/
abbrev due : Item → ℕ
  | .inl _ => 1
  | .inr _ => NB

/-- The debts `l`, to be paid in that order. -/
def oweOf (c : Dev nD) : List Item → CellTallies nD τ sig Unit
  | [] => 0
  | x :: l => oweOf c l + tallyAt (dest c x) () (due x)

theorem oweOf_pos {c : Dev nD} {l : List Item} {g : GSem nD τ sig} {u : Unit} (h : 0 < oweOf c l g u) : ∃ x ∈ l, g = dest c x := by
  induction l with
  | nil => exact absurd h (Nat.lt_irrefl 0)
  | cons x l ih =>
    unfold oweOf at h
    rw [Pi.add_apply, Finsupp.add_apply, tallyAt_apply] at h
    by_cases hx : g = dest c x ∧ u = ()
    · exact ⟨x, List.mem_cons_self, hx.1⟩
    · rw [if_neg hx, Nat.add_zero] at h
      obtain ⟨y, hy, e⟩ := ih h
      exact ⟨y, List.mem_cons_of_mem _ hy, e⟩

/-- The level of a semaphore: the barrier's below the receivers', a hop's below the next's; the fetches' and the
    senders' lowest. -/
def level (sm : SemLoc sig) : ℕ := match keyOf sm with
  | some (.inl _) => 1
  | some (.inr (.inr (t, _))) => 2 + t.val
  | _ => 0
def lv (g : GSem nD τ sig) (_ : Unit) : ℕ := level g.2
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- The level of a debt. -/
abbrev levelOf : Item → ℕ
  | .inl _ => 1
  | .inr (t, _) => 2 + t.val

theorem level_dest (c : Dev nD) (x : Item) : level (dest c x).2 = levelOf x := by
  unfold level
  rcases x with d | ⟨t, j, d⟩
  · rfl
  · show (match keyOf (semOf (kRcv t (j, d))) with
      | some (.inl _) => 1
      | some (.inr (.inr (t, _))) => 2 + t.val
      | _ => 0) = 2 + t.val
    rw [keyOf_semOf]

theorem L_dest (c : Dev nD) (x : Item) : L (dest c x) = {()} := by
  rcases x with d | ⟨t, j, d⟩ <;> rfl

/-- A device may wait on a semaphore while it owes debts above it only. -/
theorem mayWait (c : Dev nD) (sm : SemLoc sig) (l : List Item) (h : ∀ x ∈ l, level sm < levelOf x) :
    (levAts L lv : sProp 𝕄) ⊢ MayWait (c : Thread nD τ) sm () (oweOf c l) :=
  MayOwe.of_cut (L := L) (lev := lv) (level sm)
    (fun p hp => by rw [Finset.mem_singleton.mp hp, L_tc]; exact Finset.mem_singleton_self _)
    (fun g u hg => by obtain ⟨x, -, rfl⟩ := oweOf_pos hg; rw [L_dest]; exact Finset.mem_singleton_self _)
    (fun p hp => by rw [Finset.mem_singleton.mp hp]; exact le_refl _)
    (fun g u hg => by obtain ⟨x, hx, rfl⟩ := oweOf_pos hg; exact (h x hx).trans_eq (level_dest c x).symm)

/-- Device `c` owes the debts `l`. -/
def ow (c : Dev nD) (l : List Item) : sProp 𝕄 := iprop(∃ W, owes (c : Thread nD τ) (oweOf c l) W)

/-- The halves of hop `t`, in the order they are sent. -/
abbrev hopL (t : Fin 7) : List Item := [.inr (t, 0, false), .inr (t, 0, true), .inr (t, 1, false), .inr (t, 1, true)]
/-- All a device owes. -/
abbrev allL : List Item :=
  [.inl false, .inl true] ++ (hopL 0 ++ (hopL 1 ++ (hopL 2 ++ (hopL 3 ++ (hopL 4 ++ (hopL 5 ++ (hopL 6 ++ [])))))))

end Cert.KernelIdeal.Sum

end
-- ==== Proof.Steps.lean ====
/-
  Each step of the body on a symbolic device, direction, hop and half: what it takes and what it leaves.
-/
module

public import proofs.«01_k».proof.Proof.Ring

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (X : Dev nD → S1x2048x4096.Idx → F .f32) (K : Dev nD × Key → ℕ)

/-! ## What every step may use, and the triples -/

/-- Every cell's invariant, and that its first round is reached. -/
def recs : sProp 𝕄 :=
  bigSep Finset.univ fun p : Dev nD × Key => iprop(cellInv ER (rd X) (K p) (cellAt p.1 p.2) ∗ reached ER (cellAt p.1 p.2) 0)
/-- Those and the levels. -/
def env : sProp 𝕄 := iprop(recs X K ∗ levAts L lv)

instance recs_persistent : BI.Persistent (recs (F := F) X K) := by unfold recs; infer_instance
instance env_persistent : BI.Persistent (env (F := F) X K) := by unfold env; infer_instance

theorem recs_at (c : Dev nD) (x : Key) :
    recs X K ⊢ (iprop(cellInv ER (rd X) (K (c, x)) (cellAt c x) ∗ reached ER (cellAt c x) 0) : sProp 𝕄) :=
  bigSep_elim (Φ := fun p : Dev nD × Key => (iprop(cellInv ER (rd X) (K p) (cellAt p.1 p.2) ∗ reached ER (cellAt p.1 p.2) 0) : sProp 𝕄))
    (Finset.mem_univ (c, x))
theorem env_inv (c : Dev nD) (x : Key) : env X K ⊢ (cellInv ER (rd X) (K (c, x)) (cellAt c x) : sProp 𝕄) := by
  unfold env
  iintro ⟨H, -⟩
  ihave H := (recs_at X K c x) $$ H
  icases H with ⟨H, -⟩
  iexact H
theorem env_reached (c : Dev nD) (x : Key) : env X K ⊢ (reached ER (cellAt c x) 0 : sProp 𝕄) := by
  unfold env
  iintro ⟨H, -⟩
  ihave H := (recs_at X K c x) $$ H
  icases H with ⟨-, H⟩
  iexact H
theorem env_lev : env X K ⊢ (levAts L lv : sProp 𝕄) := by
  unfold env; iintro ⟨-, H⟩; iexact H

/-- From `P`, device `c` runs `p` and is left with `Q`. -/
def Tri (c : Dev nD) (P : sProp (MT nD τ sig Unit (Elt F) ℕ UU ℕ)) (p : PG F) (Q : sProp (MT nD τ sig Unit (Elt F) ℕ UU ℕ)) : Prop :=
  ∀ Kt : PUnit → sProp (MT nD τ sig Unit (Elt F) ℕ UU ℕ),
    iprop(env X K ∗ P ∗ (Q -∗ Kt ⟨⟩)) ⊢ wp frame (wpE (defs₀ (F := F)) 𝒱₀ (c : Thread nD τ) none) Set.univ p Kt

variable {X K} {c : Dev nD}
variable {P P' Q Q' R : sProp (MT nD τ sig Unit (Elt F) ℕ UU ℕ)}

theorem Tri.seq {p q : PG F} (hp : Tri X K c P p Q) (hq : Tri X K c Q q R) : Tri X K c P (p >>= fun _ => q) R := by
  intro Kt
  rw [wp_bind]
  iintro ⟨#He, HP, Hk⟩
  iapply (hp _)
  isplitr; · iexact He
  isplitl [HP]; · iexact HP
  iintro HQ
  iapply (hq Kt)
  isplitr; · iexact He
  isplitl [HQ] <;> iassumption

theorem Tri.frame {p : PG F} (hp : Tri X K c P p Q) : Tri X K c iprop(P ∗ R) p iprop(Q ∗ R) := by
  intro Kt
  iintro ⟨He, ⟨HP, HR⟩, Hk⟩
  iapply (hp Kt)
  isplitl [He]; · iexact He
  isplitl [HP]; · iexact HP
  iintro HQ
  iapply Hk
  isplitl [HQ] <;> iassumption

theorem Tri.mono {p : PG F} (hp : Tri X K c P p Q) (h : P' ⊢ P) (h' : Q ⊢ Q') : Tri X K c P' p Q' := by
  intro Kt
  iintro ⟨He, HP, Hk⟩
  iapply (hp Kt)
  isplitl [He]; · iexact He
  isplitl [HP]; · iapply h $$ HP
  iintro HQ
  iapply Hk
  iapply h' $$ HQ

/-! ## The fetches -/

/-- The share of the argument's array the fetches of one direction into one slot read at. -/
def shr (d : Bool) (k : Fin 2) : PosShare TreeShare :=
  if k = 0 then (cond d fullShare.right fullShare.left).left else (cond d fullShare.right fullShare.left).right

variable (X c)

/-- The array to fetch from. -/
def src (q : PosShare TreeShare) : sProp 𝕄 := held c inM Finset.univ q (X c)
/-- Slot `k` free to be fetched into, -/
def slotAny (d : Bool) (k : Fin 2) : sProp 𝕄 := heldAny c (xfM d) (slotR k).set
/-- and holding fetch `n`'s block. -/
def slotAt (d : Bool) (n : Fin 8) : sProp 𝕄 := held c (xfM d) (slotR (par n)).set fullShare (XF X d n c)
/-- No fetch into slot `k` under way. -/
def idle (d : Bool) (k : Fin 2) : sProp 𝕄 :=
  iprop(semVal ((c : Thread nD τ), .dma (fSem d k)) 0 ∗ src X c (shr d k))
/-- Fetch `n` under way. -/
def flying (d : Bool) (n : Fin 8) : sProp 𝕄 :=
  iprop(Flight countersEmb (c : Thread nD τ) (.dma (fSem d (par n))) () (slotM d (par n)).view.dmaCredit
      iprop(slotAt X c d n ∗ held c inM (srcR d c n).set (shr d (par n)) (X c))
    ∗ held c inM (Finset.univ \ (srcR d c n).set) (shr d (par n)) (X c))

variable {X c}

theorem slot_any (d : Bool) (n : Fin 8) : slotAt X c d n ⊢ (slotAny c d (par n) : sProp 𝕄) := held_any _ _

theorem tri_fetch (d : Bool) (n : Fin 8) :
    Tri X K c iprop(idle X c d (par n) ∗ slotAny c d (par n)) (fetchP c d n) (flying X c d n) := by
  intro Kt
  unfold fetchP idle src slotAny flying Prog.lift
  iintro ⟨-, ⟨⟨Hz, Hx⟩, Hd⟩, Hk⟩
  ihave Hx := (held_carve c inM (T := (srcR d c n).set) (Finset.subset_univ _)) $$ Hx
  icases Hx with ⟨Hs, Hrest⟩
  ihave Hs := (held_to_piece c inM (srcR d c n) (fun _ => rfl) squeezes_S1x1024x512_S1024x512) $$ Hs
  icases Hs with ⟨%fs, %hfs, Hs⟩
  ihave Hd := (any_to_piece c (xfM d) (slotR (par n)) (fun _ => rfl) squeezes_S1x1024x512_S1024x512) $$ Hd
  icases Hd with ⟨%fd, Hd⟩
  iapply (wp_dmaLocal countersEmb 𝒱₀ (c : Thread nD τ) none () (slotM d (par n)).view.dmaCredit (View.amount_dma _ _)
    (View.dmaCredit_pos _ (by decide)) (Finset.Subset.refl _)) $$ [Hs Hd Hz]
  · isplitl [Hs]; · iexact Hs
    isplitl [Hd]; · iexact Hd
    iexact Hz
  iintro Hf
  rw [wp_ret]; imodintro
  iapply Hk
  isplitl [Hf]
  · iapply (Flight_mono countersEmb (c : Thread nD τ) ?_) $$ Hf
    iintro ⟨Hd, Hs⟩
    isplitl [Hd]
    · unfold slotAt
      iapply (piece_to_held c (xfM d) (slotR (par n)) (fun _ => rfl) squeezes_S1x1024x512_S1024x512 _ ?_) $$ Hd
      intro x
      rw [View.read_write_univ, XF_src]
      exact hfs x
    · iapply (piece_to_held c inM (srcR d c n) (fun _ => rfl) squeezes_S1x1024x512_S1024x512 fs hfs) $$ Hs
  · iexact Hrest

theorem level_fSem (d : Bool) (k : Fin 2) : level (.dma (fSem d k)) = 0 := by unfold level; rw [keyOf_fSem]
theorem level_snd (k j : Fin 2) (d : Bool) : level (.dma (sSem d k j)) = 0 := by
  unfold level; rw [show SemLoc.dma (sSem d k j) = semOf (kSnd k (j, d)) from rfl, keyOf_semOf]
theorem level_rcv (t : Fin 7) (j : Fin 2) (d : Bool) : level (.dma (rSem d t j)) = 2 + t.val := by
  unfold level; rw [show SemLoc.dma (rSem d t j) = semOf (kRcv t (j, d)) from rfl, keyOf_semOf]
theorem levelOf_pos (x : Item) : 0 < levelOf x := by
  rcases x with d | ⟨t, y⟩
  · exact Nat.one_pos
  · show 0 < 2 + t.val; omega

theorem tri_fetched (d : Bool) (n : Fin 8) (l : List Item) :
    Tri X K c iprop(flying X c d n ∗ ow c l) (fetchedP c d n) iprop(idle X c d (par n) ∗ slotAt X c d n ∗ ow c l) := by
  intro Kt
  unfold fetchedP flying ow Prog.lift
  iintro ⟨#He, ⟨⟨Hf, Hrest⟩, ⟨%W, HO⟩⟩, Hk⟩
  iapply (wp_waitLocalO countersEmb 𝒱₀ (c : Thread nD τ) none () rfl) $$ [Hf HO]
  · isplitl [Hf]; · iexact Hf
    isplitl [HO]; · iexact HO
    iapply (mayWait c _ l (fun x _ => by rw [level_fSem]; exact levelOf_pos x))
    iapply (env_lev X K) $$ He
  iintro ⟨⟨Hd, Hs⟩, Hz, HO⟩
  rw [wp_ret]; imodintro
  iapply Hk
  isplitl [Hs Hrest Hz]
  · unfold idle src
    isplitl [Hz]; · iexact Hz
    iapply (held_uncarve c inM (T := (srcR d c n).set) (Finset.subset_univ _))
    isplitl [Hs] <;> iassumption
  isplitl [Hd]; · iexact Hd
  iexists _; iexact HO

/-! ## The barrier -/

variable (c)

/-- What a device pays its direction-`d` sender with. -/
def barTok (d : Bool) : sProp 𝕄 := dutyTok ER (cellAt (prev d c) kBar) 0 d
/-- What a device waits at its barrier with. -/
def barWait : sProp 𝕄 := iprop(cred (tallyAt (cellAt c kBar) () 2) ∗ atPos ER (cellAt c kBar) 0 ∅ 0)
/-- A cell past its last round. -/
def spent (x : Key) : sProp 𝕄 := atPos ER (cellAt c x) (lastOf x) ∅ 0

variable {c}

theorem tri_signal (d : Bool) (l : List Item) :
    Tri X K c iprop(barTok c d ∗ handed d c ∗ ow c (.inl d :: l)) (semSignalWord (prev d c) barSem 1#32) (ow c l) := by
  intro Kt
  unfold semSignalWord ow barTok
  iintro ⟨#He, ⟨Ht, Hh, ⟨%W, HO⟩⟩, Hk⟩
  iapply (Rounds.wp_signal 𝒱₀ ER (rd X) (c : Thread nD τ) none (dst := (prev d c : Thread nD τ)) (κ := K (prev d c, kBar))
      (d := d) (by rw [duties_bar]; exact Finset.mem_univ _) ((amount_bar X (prev d c) d).trans (by decide)) () (oweOf c l) rfl)
    $$ [HO Ht Hh]
  · isplitr; · iapply (env_inv X K (prev d c) kBar) $$ He
    isplitl [HO]; · iexact HO
    isplitl [Ht]; · iexact Ht
    isplitl [Hh]
    · rw [payload_bar, nbr_prev]; iexact Hh
    iapply (env_reached X K (prev d c) kBar) $$ He
  iintro HO
  rw [wp_ret]; imodintro
  iapply Hk
  iexists _; iexact HO

theorem tri_barWait (l : List Item) (hl : ∀ x ∈ l, 1 < levelOf x) :
    Tri X K c iprop(barWait c ∗ ow c l) (semWaitWord barSem 2#32)
      iprop((handed false (nbr false c) ∗ handed true (nbr true c)) ∗ spent c kBar ∗ ow c l) := by
  intro Kt
  unfold semWaitWord ow barWait spent
  iintro ⟨#He, ⟨⟨Hc, Ha⟩, ⟨%W, HO⟩⟩, Hk⟩
  iapply (Rounds.wp_wait_rest_token 𝒱₀ ER (rd X) (c : Thread nD τ) none (κ := K (c, kBar))
      (wpE_semWait_eq 𝒱₀ (c : Thread nD τ) none Set.univ) (Set.mem_univ _) () (O := oweOf c l) (W := W) (R := 0) (m := 0) (T := ∅)
      (by rw [expect_bar]; decide)) $$ [Hc HO Ha]
  · isplitr; · iapply (env_inv X K c kBar) $$ He
    isplitl [Hc]; · iexact Hc
    isplitl [HO]; · iexact HO
    isplitr
    · iapply (mayWait c (.reg barSem) l hl)
      iapply (env_lev X K) $$ He
    iexact Ha
  iintro ⟨HO, Ha, -, Hp⟩
  rw [wp_ret]; imodintro
  iapply Hk
  isplitl [Hp]; · iapply (Entails.of_eq (rest_bar X c)) $$ Hp
  isplitl [Ha]; · iexact Ha
  iexists _; iexact HO

/-! ## Staging, sending, receiving -/

variable (c)

/-- Half `j` of stage slot `k`, ready for the slot's round `R`, -/
def free (k j : Fin 2) (d : Bool) (R : ℕ) : sProp 𝕄 :=
  iprop(heldAny c (stM d) (pcR k j).set ∗ atPos ER (cellAt c (kSnd k (j, d))) R ∅ 0 ∗ reached ER (cellAt c (kSnd k (j, d))) R)
/-- and that of hop `t`, being sent. -/
def busy (t : Fin 7) (j : Fin 2) (d : Bool) : sProp 𝕄 :=
  iprop(cred (tallyAt (cellAt c (kSnd (par t) (j, d))) () NB) ∗ atPos ER (cellAt c (kSnd (par t) (j, d))) (t.val / 2) ∅ 0)
/-- The rights to send hop `t`: to pay into the two cells. -/
def sendTok (t : Fin 7) (j : Fin 2) (d : Bool) : sProp 𝕄 :=
  iprop(dutyTok ER (cellAt c (kSnd (par t) (j, d))) (t.val / 2) false ∗ dutyTok ER (cellAt (nbr d c) (kRcv t (j, d))) 0 false)
/-- Those, and the half of the neighbour's buffer. -/
def sendKit (t : Fin 7) (j : Fin 2) (d : Bool) : sProp 𝕄 :=
  iprop(sendTok c t j d ∗ heldAny (nbr d c) (rvM d) (rvR t j).set)
/-- What the wait for hop `t`'s partial sum takes, -/
def recvKit (t : Fin 7) (j : Fin 2) (d : Bool) : sProp 𝕄 :=
  iprop(cred (tallyAt (cellAt c (kRcv t (j, d))) () NB) ∗ atPos ER (cellAt c (kRcv t (j, d))) 0 ∅ 0)
variable (X) in
/-- and what it leaves. -/
def recvDone (t : Fin 7) (j : Fin 2) (d : Bool) : sProp 𝕄 :=
  iprop(held c (rvM d) (rvR t j).set fullShare (RV X d t.val c) ∗ spent c (kRcv t (j, d)))

variable {c}

theorem tri_put (d : Bool) (k j : Fin 2) (w : FVec F S1x512x512 .bf16) {Y : S2x1024x512.Idx → F .bf16}
    (hY : ∀ y, Y ((pcR k j).emb y) = w y) :
    Tri X K c (heldAny c (stM d) (pcR k j).set) (putP d k j w) (held c (stM d) (pcR k j).set fullShare Y) := by
  intro Kt
  unfold putP
  rw [Prog.bind_lift]
  unfold Prog.lift
  iintro ⟨-, Hs, Hk⟩
  iapply (wp_load_any c) $$ Hs
  iintro %_ Hs
  iapply (wp_store_held c hY) $$ Hs
  iintro Hs
  rw [wp_ret]; imodintro
  iapply Hk $$ Hs

theorem pc_subset (k j : Fin 2) : (pcR k j).set ⊆ (slotR k).set := by
  intro i hi
  rw [LoadRect.mem_set] at hi ⊢
  have hj := j.isLt
  intro a
  obtain ⟨y, hy, e⟩ := hi a
  fin_cases a
  · exact ⟨y, hy, e⟩
  · have hy' : y < 512 := hy
    have e' : (i 1).val = 512 * j.val + 1 * y := e
    exact ⟨512 * j.val + y, (by omega : 512 * j.val + y < 1024), (by omega : (i 1).val = 0 + 1 * (512 * j.val + y))⟩
  · exact ⟨y, hy, e⟩

theorem tri_first (d : Bool) (j : Fin 2) :
    Tri X K c iprop(slotAt X c d 0 ∗ heldAny c (stM d) (pcR 0 j).set) (firstP d j)
      iprop(slotAt X c d 0 ∗ held c (stM d) (pcR 0 j).set fullShare (ST X d 0 c)) := by
  intro Kt
  unfold firstP slotAt
  rw [Prog.bind_lift, show par (0 : Fin 8) = (0 : Fin 2) from rfl]
  iintro ⟨#He, ⟨Hx, Hs⟩, Hk⟩
  iapply (wp_load_held c (m := xfM d) (S := (slotR 0).set) (q := fullShare) (X := XF X d 0 c) (pc_subset 0 j)) $$ Hx
  iintro Hx
  iapply (tri_put d 0 j _ (ST_zero X d c j) Kt)
  isplitr; · iexact He
  isplitl [Hs]; · iexact Hs
  iintro Hs
  iapply Hk
  isplitl [Hx] <;> iassumption

theorem tri_recv (d : Bool) (t : Fin 7) (j : Fin 2) (l : List Item) (hl : ∀ x ∈ l, 2 + t.val < levelOf x) :
    Tri X K c iprop(recvKit c t j d ∗ ow c l) (recvP d t j) iprop(recvDone X c t j d ∗ ow c l) := by
  intro Kt
  unfold recvP ow recvKit recvDone spent Prog.lift
  iintro ⟨#He, ⟨⟨Hc, Ha⟩, ⟨%W, HO⟩⟩, Hk⟩
  iapply (Rounds.wp_wait_rest_token 𝒱₀ ER (rd X) (c : Thread nD τ) none (κ := K (c, kRcv t (j, d)))
      (wpE_waitDma2_eq 𝒱₀ (c : Thread nD τ) none Set.univ) (Set.mem_univ _) () (O := oweOf c l) (W := W) (R := 0) (m := 0) (T := ∅)
      ((Nat.zero_add _).trans ((credit_rvP d t j).trans (expect_rcv X c t (j, d)).symm))) $$ [Hc HO Ha]
  · isplitr; · iapply (env_inv X K c (kRcv t (j, d))) $$ He
    isplitl [Hc]; · rw [credit_rvP]; iexact Hc
    isplitl [HO]; · iexact HO
    isplitr
    · iapply (mayWait c (.dma (rSem d t j)) l (fun x hx => by rw [level_rcv]; exact hl x hx))
      iapply (env_lev X K) $$ He
    iexact Ha
  iintro ⟨HO, Ha, -, Hp⟩
  rw [wp_ret]; imodintro
  iapply Hk
  isplitl [Hp Ha]
  · isplitl [Hp]; · iapply (Entails.of_eq (rest_rcv X c t j d)) $$ Hp
    iexact Ha
  iexists _; iexact HO

theorem half_lt (t : Fin 7) : t.val / 2 < rounds (par t) := by revert t; decide

theorem tri_sent (d : Bool) (t : Fin 7) (j : Fin 2) (l : List Item) :
    Tri X K c iprop(busy c t j d ∗ ow c l) (sentP d t j) iprop(free c (par t) j d (t.val / 2 + 1) ∗ ow c l) := by
  intro Kt
  unfold sentP ow busy free Prog.lift
  iintro ⟨#He, ⟨⟨Hc, Ha⟩, ⟨%W, HO⟩⟩, Hk⟩
  iapply (Rounds.wp_wait_rest_token 𝒱₀ ER (rd X) (c : Thread nD τ) none (κ := K (c, kSnd (par t) (j, d)))
      (wpE_waitDma2_eq 𝒱₀ (c : Thread nD τ) none Set.univ) (Set.mem_univ _) () (O := oweOf c l) (W := W) (R := t.val / 2) (m := 0) (T := ∅)
      ((Nat.zero_add _).trans ((credit_stP d (par t) j).trans (expect_snd X c (par t) (j, d) (half_lt t)).symm))) $$ [Hc HO Ha]
  · isplitr; · iapply (env_inv X K c (kSnd (par t) (j, d))) $$ He
    isplitl [Hc]; · rw [credit_stP]; iexact Hc
    isplitl [HO]; · iexact HO
    isplitr
    · iapply (mayWait c (.dma (sSem d (par t) j)) l (fun x hx => by rw [level_snd]; exact levelOf_pos x))
      iapply (env_lev X K) $$ He
    iexact Ha
  iintro ⟨HO, Ha, Hr, Hp⟩
  rw [wp_ret]; imodintro
  iapply Hk
  isplitl [Hp Ha Hr]
  · isplitl [Hp]; · iapply (Entails.of_eq (rest_snd X c (par t) j d (half_lt t))) $$ Hp
    isplitl [Ha] <;> iassumption
  iexists _; iexact HO

theorem tri_send (d : Bool) (t : Fin 7) (j : Fin 2) (l : List Item) :
    Tri X K c iprop((held c (stM d) (pcR (par t) j).set fullShare (ST X d t.val c)
        ∗ atPos ER (cellAt c (kSnd (par t) (j, d))) (t.val / 2) ∅ 0 ∗ reached ER (cellAt c (kSnd (par t) (j, d))) (t.val / 2))
        ∗ sendKit c t j d ∗ ow c (.inr (t, j, d) :: l))
      (sendP c d t j) iprop(busy c t j d ∗ ow c l) := by
  intro Kt
  unfold sendP ow busy sendKit sendTok Prog.lift
  iintro ⟨#He, ⟨⟨Hs, Ha, Hr⟩, ⟨⟨Ht1, Ht2⟩, Hd⟩, ⟨%W, HO⟩⟩, Hk⟩
  ihave Hs := (held_to_piece c (stM d) (pcR (par t) j) (fun _ => rfl) squeezes_S1x512x512_S512x512) $$ Hs
  icases Hs with ⟨%fs, %hfs, Hs⟩
  ihave Hd := (any_to_piece (nbr d c) (rvM d) (rvR t j) (fun _ => rfl) squeezes_S1x512x512_S512x512) $$ Hd
  icases Hd with ⟨%fd, Hd⟩
  iapply (Rounds.wp_send_pointsTo 𝒱₀ ER (rd X) (c : Thread nD τ) none
      (κ₁ := K (c, kSnd (par t) (j, d))) (κ₂ := K (nbr d c, kRcv t (j, d)))
      (c' := (nbr d c : Thread nD τ)) (src := stP d (par t) j) (dst := rvP d t j) (sS := .dma (sSem d (par t) j)) (sem := .dma (rSem d t j))
      (r₁ := t.val / 2) (r₂ := 0) (d₁ := false) (d₂ := false) (q := fullShare) (fs := fs) (fd := fd)
      (mem_snd X c (par t) (j, d) (half_lt t)) (mem_rcv X (nbr d c) t (j, d))
      () () NB ((View.amount_dma _ _).trans (credit_rvP d t j)) (amount_snd X c (par t) (j, d) _ _) (amount_rcv X (nbr d c) t (j, d) _ _) (oweOf c l) rfl (W := W)
      ?_ ?_) $$ [Hs Hd HO Ht1 Ht2 Hr]
  · refine BIBase.Entails.trans ?_ (Entails.of_eq (payload_snd X c (par t) j d _ _).symm)
    iintro H
    iapply (held_any c (stM d) (X := ST X d t.val c))
    iapply (piece_to_held c (stM d) (pcR (par t) j) (fun _ => rfl) squeezes_S1x512x512_S512x512 fs hfs) $$ H
  · refine BIBase.Entails.trans ?_ (Entails.of_eq (payload_rcv X (nbr d c) t j d _ _).symm)
    refine piece_to_held (nbr d c) (rvM d) (rvR t j) (fun _ => rfl) squeezes_S1x512x512_S512x512 _ ?_
    intro x
    rw [View.read_write_univ, ← RV_ST X d t.val c (par t) j t]
    exact hfs x
  · isplitr; · iapply (env_inv X K c (kSnd (par t) (j, d))) $$ He
    isplitr; · iapply (env_inv X K (nbr d c) (kRcv t (j, d))) $$ He
    isplitl [Hs]; · iexact Hs
    isplitl [Hd]; · iexact Hd
    isplitl [HO]; · iexact HO
    isplitl [Ht1]; · iexact Ht1
    isplitl [Hr]; · iexact Hr
    isplitl [Ht2]; · iexact Ht2
    iapply (env_reached X K (nbr d c) (kRcv t (j, d))) $$ He
  iintro ⟨Hc, HO⟩
  rw [wp_ret]; imodintro
  iapply Hk
  isplitl [Hc Ha]
  · isplitl [Hc] <;> iassumption
  iexists _; iexact HO

end Cert.KernelIdeal.Sum

end
-- ==== Proof.Hops.lean ====
/-
  The body's groups of steps: a hop of one half, a hop of both directions, the middle of the ring's round.
-/
module

public import proofs.«01_k».proof.Proof.Steps

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable {X : Dev nD → S1x2048x4096.Idx → F .f32} {K : Dev nD × Key → ℕ} {c : Dev nD}

/-- A thing of each half of each direction, in the order the body takes them. -/
def all4 (Φ : Fin 2 → Bool → sProp (MT nD τ sig Unit (Elt F) ℕ UU ℕ)) : sProp 𝕄 :=
  iprop(Φ 0 false ∗ Φ 0 true ∗ Φ 1 false ∗ Φ 1 true)

theorem all4_mono {Φ Ψ : Fin 2 → Bool → sProp (MT nD τ sig Unit (Elt F) ℕ UU ℕ)} (h : ∀ j d, Φ j d ⊢ Ψ j d) :
    all4 Φ ⊢ (all4 Ψ : sProp 𝕄) :=
  BIClass.sep_mono (h 0 false) (BIClass.sep_mono (h 0 true) (BIClass.sep_mono (h 1 false) (h 1 true)))

variable (X c)
/-- Both directions ready to fetch into slot `k`. -/
def ready (k : Fin 2) : sProp 𝕄 :=
  iprop((idle X c false k ∗ slotAny c false k) ∗ (idle X c true k ∗ slotAny c true k))
/-- Both directions' fetch `n` under way. -/
def fly (n : Fin 8) : sProp 𝕄 := iprop(flying X c false n ∗ flying X c true n)
variable {X c}

theorem tri_fetches (n : Fin 8) : Tri X K c (ready X c (par n)) (fetchesP c n) (fly X c n) := by
  intro Kt
  unfold fetchesP ready fly
  rw [wp_bind]
  iintro ⟨#He, ⟨Hf, Ht⟩, Hk⟩
  iapply (tri_fetch false n _)
  isplitr; · iexact He
  isplitl [Hf]; · iexact Hf
  iintro Hf
  iapply (tri_fetch true n _)
  isplitr; · iexact He
  isplitl [Ht]; · iexact Ht
  iintro Ht
  iapply Hk
  isplitl [Hf] <;> iassumption

theorem tri_sents (t : Fin 7) (l : List Item) :
    Tri X K c iprop(all4 (busy c t) ∗ ow c l) (sentsP t) iprop(all4 (fun j d => free c (par t) j d (t.val / 2 + 1)) ∗ ow c l) := by
  intro Kt
  unfold sentsP all4
  rw [wp_bind, wp_bind, wp_bind]
  iintro ⟨#He, ⟨⟨H1, H2, H3, H4⟩, HO⟩, Hk⟩
  iapply (tri_sent false t 0 l _)
  isplitr; · iexact He
  isplitl [H1 HO]; · isplitl [H1] <;> iassumption
  iintro ⟨H1, HO⟩
  iapply (tri_sent true t 0 l _)
  isplitr; · iexact He
  isplitl [H2 HO]; · isplitl [H2] <;> iassumption
  iintro ⟨H2, HO⟩
  iapply (tri_sent false t 1 l _)
  isplitr; · iexact He
  isplitl [H3 HO]; · isplitl [H3] <;> iassumption
  iintro ⟨H3, HO⟩
  iapply (tri_sent true t 1 l _)
  isplitr; · iexact He
  isplitl [H4 HO]; · isplitl [H4] <;> iassumption
  iintro ⟨H4, HO⟩
  iapply Hk
  isplitr [HO]
  · isplitl [H1]; · iexact H1
    isplitl [H2]; · iexact H2
    isplitl [H3] <;> iassumption
  · iexact HO

theorem tri_hop (d : Bool) (t : Fin 6) (j : Fin 2) (l : List Item) (hl : ∀ x ∈ l, 2 + t.val < levelOf x) :
    Tri X K c iprop(recvKit c t.castSucc j d ∗ slotAt X c d t.succ.castSucc ∗ free c (par t.succ) j d (t.succ.val / 2)
        ∗ sendKit c t.succ j d ∗ ow c (.inr (t.succ, j, d) :: l))
      (hopP c d t j)
      iprop(recvDone X c t.castSucc j d ∗ slotAt X c d t.succ.castSucc ∗ busy c t.succ j d ∗ ow c l) := by
  intro Kt
  unfold hopP free
  rw [wp_bind]
  iintro ⟨#He, ⟨Hr, Hx, ⟨Hs, Ha, Hb⟩, Ht, HO⟩, Hk⟩
  iapply (tri_recv d t.castSucc j (.inr (t.succ, j, d) :: l) ?hl _)
  case hl =>
    intro x hx
    rcases List.mem_cons.mp hx with rfl | hx
    · show 2 + t.val < 2 + (t.val + 1); omega
    · exact hl x hx
  isplitr; · iexact He
  isplitl [Hr HO]; · isplitl [Hr] <;> iassumption
  unfold recvDone slotAt
  iintro ⟨⟨Hv, Hsp⟩, HO⟩
  rw [Prog.bind_lift]
  iapply (wp_load_held c (m := rvM d) (S := (rvR t.castSucc j).set) (q := fullShare) (X := RV X d t.castSucc.val c)
    (Finset.Subset.refl _)) $$ Hv
  iintro Hv
  rw [Prog.bind_lift]
  iapply (wp_load_held c (m := xfM d) (S := (slotR (par t.succ.castSucc)).set) (q := fullShare) (X := XF X d t.succ.castSucc c)
    (pc_subset (par t.succ) j)) $$ Hx
  iintro Hx
  rw [wp_bind]
  iapply (tri_put d (par t.succ) j _ (ST_succ X d c j (par t.succ) t) _)
  isplitr; · iexact He
  isplitl [Hs]; · iexact Hs
  iintro Hs
  iapply (tri_send d t.succ j l _)
  isplitr; · iexact He
  isplitl [Hs Ha Hb Ht HO]
  · isplitl [Hs Ha Hb]
    · isplitl [Hs]; · iexact Hs
      isplitl [Ha] <;> iassumption
    isplitl [Ht] <;> iassumption
  iintro ⟨Hb, HO⟩
  iapply Hk
  isplitl [Hv Hsp]; · isplitl [Hv] <;> iassumption
  isplitl [Hx]; · iexact Hx
  isplitl [Hb] <;> iassumption

theorem hop_level (t : Fin 6) {l : List Item} (hl : ∀ x ∈ l, 2 + t.val < levelOf x) (y : Lane) :
    ∀ x ∈ (.inr (t.succ, y) :: l : List Item), 2 + t.val < levelOf x := by
  intro x hx
  rcases List.mem_cons.mp hx with rfl | hx
  · show 2 + t.val < 2 + (t.val + 1); omega
  · exact hl x hx

theorem tri_hops (t : Fin 6) (l : List Item) (hl : ∀ x ∈ l, 2 + t.val < levelOf x) :
    Tri X K c iprop(fly X c t.succ.castSucc ∗ all4 (recvKit c t.castSucc)
        ∗ all4 (fun j d => free c (par t.succ) j d (t.succ.val / 2)) ∗ all4 (sendKit c t.succ) ∗ ow c (hopL t.succ ++ l))
      (hopsP c t)
      iprop(ready X c (par t.succ.castSucc) ∗ all4 (recvDone X c t.castSucc) ∗ all4 (busy c t.succ) ∗ ow c l) := by
  intro Kt
  unfold hopsP all4 fly
  rw [wp_bind, wp_bind, wp_bind, wp_bind, wp_bind]
  iintro ⟨#He, ⟨⟨Hf, Hg⟩, ⟨R1, R2, R3, R4⟩, ⟨F1, F2, F3, F4⟩, ⟨S1, S2, S3, S4⟩, HO⟩, Hk⟩
  iapply (tri_fetched false t.succ.castSucc (hopL t.succ ++ l) _)
  isplitr; · iexact He
  isplitl [Hf HO]; · isplitl [Hf] <;> iassumption
  iintro ⟨If, Xf, HO⟩
  iapply (tri_hop false t 0 _ (hop_level t (hop_level t (hop_level t hl _) _) _) _)
  isplitr; · iexact He
  isplitl [R1 F1 S1 Xf HO]
  · isplitl [R1]; · iexact R1
    isplitl [Xf]; · iexact Xf
    isplitl [F1]; · iexact F1
    isplitl [S1]; · iexact S1
    iexact HO
  iintro ⟨R1, Xf, B1, HO⟩
  iapply (tri_fetched true t.succ.castSucc _ _)
  isplitr; · iexact He
  isplitl [Hg HO]; · isplitl [Hg] <;> iassumption
  iintro ⟨Ig, Xg, HO⟩
  iapply (tri_hop true t 0 _ (hop_level t (hop_level t hl _) _) _)
  isplitr; · iexact He
  isplitl [R2 F2 S2 Xg HO]
  · isplitl [R2]; · iexact R2
    isplitl [Xg]; · iexact Xg
    isplitl [F2]; · iexact F2
    isplitl [S2]; · iexact S2
    iexact HO
  iintro ⟨R2, Xg, B2, HO⟩
  iapply (tri_hop false t 1 _ (hop_level t hl _) _)
  isplitr; · iexact He
  isplitl [R3 F3 S3 Xf HO]
  · isplitl [R3]; · iexact R3
    isplitl [Xf]; · iexact Xf
    isplitl [F3]; · iexact F3
    isplitl [S3]; · iexact S3
    iexact HO
  iintro ⟨R3, Xf, B3, HO⟩
  iapply (tri_hop true t 1 _ hl _)
  isplitr; · iexact He
  isplitl [R4 F4 S4 Xg HO]
  · isplitl [R4]; · iexact R4
    isplitl [Xg]; · iexact Xg
    isplitl [F4]; · iexact F4
    isplitl [S4]; · iexact S4
    iexact HO
  iintro ⟨R4, Xg, B4, HO⟩
  iapply Hk
  isplitl [If Xf Ig Xg]
  · unfold ready
    isplitl [If Xf]
    · isplitl [If]; · iexact If
      iapply (slot_any false t.succ.castSucc) $$ Xf
    · isplitl [Ig]; · iexact Ig
      iapply (slot_any true t.succ.castSucc) $$ Xg
  isplitl [R1 R2 R3 R4]
  · isplitl [R1]; · iexact R1
    isplitl [R2]; · iexact R2
    isplitl [R3] <;> iassumption
  isplitl [B1 B2 B3 B4]
  · isplitl [B1]; · iexact B1
    isplitl [B2]; · iexact B2
    isplitl [B3] <;> iassumption
  iexact HO

/-- A slot read is ready for the hop after the next. -/
theorem free_next (t : Fin 4) (j : Fin 2) (d : Bool) :
    (free c (par (⟨t.val, by omega⟩ : Fin 7)) j d (t.val / 2 + 1) : sProp 𝕄)
      = free c (par (⟨t.val + 1, by omega⟩ : Fin 6).succ) j d ((⟨t.val + 1, by omega⟩ : Fin 6).succ.val / 2) := by
  rw [show par (⟨t.val + 1, by omega⟩ : Fin 6).succ = par (⟨t.val, by omega⟩ : Fin 7) from
      Fin.ext (by show (t.val + 1 + 1) % 2 = t.val % 2; omega),
    show (⟨t.val + 1, by omega⟩ : Fin 6).succ.val / 2 = t.val / 2 + 1 from (by show (t.val + 1 + 1) / 2 = t.val / 2 + 1; omega)]

theorem ready_next (t : Fin 4) :
    (ready X c (par (⟨t.val + 1, by omega⟩ : Fin 6).succ.castSucc) : sProp 𝕄) = ready X c (par (⟨t.val + 4, by omega⟩ : Fin 8)) := by
  rw [show par (⟨t.val + 1, by omega⟩ : Fin 6).succ.castSucc = par (⟨t.val + 4, by omega⟩ : Fin 8) from
      Fin.ext (by show (t.val + 1 + 1) % 2 = (t.val + 4) % 2; omega)]

theorem tri_mid (t : Fin 4) (l : List Item) (hl : ∀ x ∈ l, 3 + t.val < levelOf x) :
    Tri X K c iprop(all4 (busy c (⟨t.val, by omega⟩ : Fin 7)) ∗ fly X c (⟨t.val + 1, by omega⟩ : Fin 6).succ.castSucc
        ∗ all4 (recvKit c (⟨t.val + 1, by omega⟩ : Fin 6).castSucc) ∗ all4 (sendKit c (⟨t.val + 1, by omega⟩ : Fin 6).succ)
        ∗ ow c (hopL (⟨t.val + 1, by omega⟩ : Fin 6).succ ++ l))
      (midP c t)
      iprop(fly X c ⟨t.val + 4, by omega⟩ ∗ all4 (recvDone X c (⟨t.val + 1, by omega⟩ : Fin 6).castSucc)
        ∗ all4 (busy c (⟨t.val + 1, by omega⟩ : Fin 6).succ) ∗ ow c l) := by
  intro Kt
  unfold midP
  rw [wp_bind, wp_bind]
  iintro ⟨#He, ⟨HB, Hf, HR, HS, HO⟩, Hk⟩
  iapply (tri_sents _ _ _)
  isplitr; · iexact He
  isplitl [HB HO]; · isplitl [HB] <;> iassumption
  iintro ⟨HF, HO⟩
  iapply (tri_hops _ l (fun x hx => by have := hl x hx; show 2 + (t.val + 1) < levelOf x; omega) _)
  isplitr; · iexact He
  isplitl [Hf HR HF HS HO]
  · isplitl [Hf]; · iexact Hf
    isplitl [HR]; · iexact HR
    isplitl [HF]
    · iapply (all4_mono fun j d => Entails.of_eq (free_next t j d)) $$ HF
    isplitl [HS] <;> iassumption
  iintro ⟨Hr, HR, HB, HO⟩
  iapply (tri_fetches _ _)
  isplitr; · iexact He
  isplitl [Hr]; · iapply (Entails.of_eq (ready_next t)) $$ Hr
  iintro Hf
  iapply Hk
  isplitl [Hf]; · iexact Hf
  isplitl [HR]; · iexact HR
  isplitl [HB] <;> iassumption

end Cert.KernelIdeal.Sum

end
-- ==== Proof.Body.lean ====
/-
  The body, run once at a device that is a variable: what it needs, and what it leaves.
-/
module

public import proofs.«01_k».proof.Proof.Hops

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable {X : Dev nD → S1x2048x4096.Idx → F .f32} {K : Dev nD × Key → ℕ} {c : Dev nD}

/-! ## The start -/

/-- A thing of each hop. -/
theorem seven (Φ : Fin 7 → sProp (MT nD τ sig Unit (Elt F) ℕ UU ℕ)) :
    bigSep Finset.univ Φ = (iprop(Φ 0 ∗ Φ 1 ∗ Φ 2 ∗ Φ 3 ∗ Φ 4 ∗ Φ 5 ∗ Φ 6) : sProp 𝕄) :=
  bigSep_univ_eq_bigSepL [0, 1, 2, 3, 4, 5, 6] (by decide) (by decide) Φ

theorem kit (t : Fin 7) :
    iprop(all4 (sendTok c t) ∗ (heldAny (nbr false c) (rvM false) (rvR t 0).set ∗ heldAny (nbr false c) (rvM false) (rvR t 1).set)
        ∗ (heldAny (nbr true c) (rvM true) (rvR t 0).set ∗ heldAny (nbr true c) (rvM true) (rvR t 1).set))
      ⊢ (all4 (sendKit c t) : sProp 𝕄) := by
  unfold all4 sendKit
  iintro ⟨⟨T1, T2, T3, T4⟩, ⟨A1, A3⟩, ⟨A2, A4⟩⟩
  isplitl [T1 A1]; · isplitl [T1] <;> iassumption
  isplitl [T2 A2]; · isplitl [T2] <;> iassumption
  isplitl [T3 A3]; · isplitl [T3] <;> iassumption
  isplitl [T4] <;> iassumption

variable (c)
/-- One's rights to send from the second hop on. -/
def kitsLeft : sProp 𝕄 :=
  iprop(all4 (sendKit c 1) ∗ all4 (sendKit c 2) ∗ all4 (sendKit c 3) ∗ all4 (sendKit c 4) ∗ all4 (sendKit c 5) ∗ all4 (sendKit c 6))

/-- With the neighbours' buffers handed over, the rights to send are whole. -/
theorem kits :
    iprop(bigSep Finset.univ (fun t : Fin 7 => all4 (sendTok c t)) ∗ handed false (nbr false c) ∗ handed true (nbr true c))
      ⊢ (iprop((sendKit c 0 0 false ∗ sendKit c 0 0 true ∗ sendKit c 0 1 false ∗ sendKit c 0 1 true) ∗ kitsLeft c) : sProp 𝕄) := by
  unfold handed
  refine BIBase.Entails.trans (Entails.of_eq ((congrArg (fun P => iprop(_ ∗ P)) (bigSep_sep' _ _ _).symm).trans (bigSep_sep' _ _ _).symm)) ?_
  exact BIBase.Entails.trans (bigSep_mono fun t _ => kit t) (Entails.of_eq (seven fun t => all4 (sendKit c t)))
variable {c}

theorem tri_stage (d : Bool) (j : Fin 2) :
    Tri X K c iprop(slotAt X c d 0 ∗ free c 0 j d 0) (firstP d j)
      iprop(slotAt X c d 0 ∗ held c (stM d) (pcR (par (0 : Fin 7)) j).set fullShare (ST X d (0 : Fin 7).val c)
        ∗ atPos ER (cellAt c (kSnd (par (0 : Fin 7)) (j, d))) ((0 : Fin 7).val / 2) ∅ 0
        ∗ reached ER (cellAt c (kSnd (par (0 : Fin 7)) (j, d))) ((0 : Fin 7).val / 2)) := by
  intro Kt
  unfold free
  iintro ⟨#He, ⟨Hx, Hs, Ha⟩, Hk⟩
  iapply (tri_first d j _)
  isplitr; · iexact He
  isplitl [Hx Hs]; · isplitl [Hx] <;> iassumption
  iintro ⟨Hx, Hs⟩
  iapply Hk
  isplitl [Hx]; · iexact Hx
  isplitl [Hs]; · iexact Hs
  iexact Ha

/-- A half staged for the first hop. -/
def staged (X : Dev nD → S1x2048x4096.Idx → F .f32) (c : Dev nD) (j : Fin 2) (d : Bool) : sProp 𝕄 :=
  iprop(held c (stM d) (pcR (par (0 : Fin 7)) j).set fullShare (ST X d (0 : Fin 7).val c)
    ∗ atPos ER (cellAt c (kSnd (par (0 : Fin 7)) (j, d))) ((0 : Fin 7).val / 2) ∅ 0
    ∗ reached ER (cellAt c (kSnd (par (0 : Fin 7)) (j, d))) ((0 : Fin 7).val / 2))

theorem tri_start : Tri X K c
    iprop(ready X c 0 ∗ ready X c 1 ∗ (barTok c false ∗ barTok c true) ∗ (handed false c ∗ handed true c) ∗ barWait c
      ∗ all4 (fun j d => free c 0 j d 0) ∗ bigSep Finset.univ (fun t : Fin 7 => all4 (sendTok c t)) ∗ ow c allL)
    (startP c)
    iprop(fly X c 1 ∗ fly X c 2 ∗ all4 (busy c 0) ∗ kitsLeft c ∗ spent c kBar
      ∗ ow c (hopL 1 ++ (hopL 2 ++ (hopL 3 ++ (hopL 4 ++ (hopL 5 ++ (hopL 6 ++ []))))))) := by
  intro Kt
  unfold startP
  rw [show (all4 (fun j d => free c 0 j d 0) : sProp 𝕄)
    = iprop(free c 0 0 false 0 ∗ free c 0 0 true 0 ∗ free c 0 1 false 0 ∗ free c 0 1 true 0) from rfl]
  iintro ⟨#He, ⟨Ra, Rb, ⟨B1, B2⟩, ⟨G1, G2⟩, HW, ⟨F1, F2, F3, F4⟩, HT, HO⟩, Hk⟩
  rw [wp_bind]
  iapply (tri_fetches 0 _)
  isplitr; · iexact He
  isplitl [Ra]; · iexact Ra
  iintro Fa
  rw [wp_bind]
  iapply (tri_fetches 1 _)
  isplitr; · iexact He
  isplitl [Rb]; · iexact Rb
  iintro Fb
  rw [wp_bind]
  iapply (tri_signal false _ _)
  isplitr; · iexact He
  isplitl [B1 G1 HO]
  · isplitl [B1]; · iexact B1
    isplitl [G1]; · iexact G1
    iexact HO
  iintro HO
  rw [wp_bind]
  iapply (tri_signal true _ _)
  isplitr; · iexact He
  isplitl [B2 G2 HO]
  · isplitl [B2]; · iexact B2
    isplitl [G2]; · iexact G2
    iexact HO
  iintro HO
  unfold fly
  icases Fa with ⟨Fa, Fc⟩
  rw [wp_bind]
  iapply (tri_fetched false 0 _ _)
  isplitr; · iexact He
  isplitl [Fa HO]
  · isplitl [Fa]; · iexact Fa
    iexact HO
  iintro ⟨If, Xf, HO⟩
  rw [wp_bind]
  iapply (tri_fetched true 0 _ _)
  isplitr; · iexact He
  isplitl [Fc HO]
  · isplitl [Fc]; · iexact Fc
    iexact HO
  iintro ⟨It, Xt, HO⟩
  rw [wp_bind]
  iapply (tri_stage false 0 _)
  isplitr; · iexact He
  isplitl [Xf F1]; · isplitl [Xf] <;> iassumption
  iintro ⟨Xf, F1⟩
  rw [wp_bind]
  iapply (tri_stage true 0 _)
  isplitr; · iexact He
  isplitl [Xt F2]; · isplitl [Xt] <;> iassumption
  iintro ⟨Xt, F2⟩
  rw [wp_bind]
  iapply (tri_stage false 1 _)
  isplitr; · iexact He
  isplitl [Xf F3]; · isplitl [Xf] <;> iassumption
  iintro ⟨Xf, F3⟩
  rw [wp_bind]
  iapply (tri_stage true 1 _)
  isplitr; · iexact He
  isplitl [Xt F4]; · isplitl [Xt] <;> iassumption
  iintro ⟨Xt, F4⟩
  rw [wp_bind]
  iapply (tri_barWait (hopL 0 ++ (hopL 1 ++ (hopL 2 ++ (hopL 3 ++ (hopL 4 ++ (hopL 5 ++ (hopL 6 ++ []))))))) (by decide) _)
  isplitr; · iexact He
  isplitl [HW HO]
  · isplitl [HW]; · iexact HW
    iexact HO
  iintro ⟨HH, HB, HO⟩
  ihave HT := (kits c) $$ [HT HH]
  · isplitl [HT] <;> iassumption
  icases HT with ⟨⟨S1, S2, S3, S4⟩, HT⟩
  rw [wp_bind]
  iapply (tri_send false 0 0 _ _)
  isplitr; · iexact He
  isplitl [F1 S1 HO]
  · isplitl [F1]; · iexact F1
    isplitl [S1]; · iexact S1
    iexact HO
  iintro ⟨B1, HO⟩
  rw [wp_bind]
  iapply (tri_send true 0 0 _ _)
  isplitr; · iexact He
  isplitl [F2 S2 HO]
  · isplitl [F2]; · iexact F2
    isplitl [S2]; · iexact S2
    iexact HO
  iintro ⟨B2, HO⟩
  rw [wp_bind]
  iapply (tri_send false 0 1 _ _)
  isplitr; · iexact He
  isplitl [F3 S3 HO]
  · isplitl [F3]; · iexact F3
    isplitl [S3]; · iexact S3
    iexact HO
  iintro ⟨B3, HO⟩
  rw [wp_bind]
  iapply (tri_send true 0 1 _ _)
  isplitr; · iexact He
  isplitl [F4 S4 HO]
  · isplitl [F4]; · iexact F4
    isplitl [S4]; · iexact S4
    iexact HO
  iintro ⟨B4, HO⟩
  iapply (tri_fetches 2 _)
  isplitr; · iexact He
  isplitl [If It Xf Xt]
  · unfold ready
    isplitl [If Xf]
    · isplitl [If]; · iexact If
      iapply (slot_any false 0) $$ Xf
    · isplitl [It]; · iexact It
      iapply (slot_any true 0) $$ Xt
  iintro Fc
  unfold fly
  iapply Hk
  isplitl [Fb]; · iexact Fb
  isplitl [Fc]; · iexact Fc
  isplitl [B1 B2 B3 B4]
  · unfold all4
    isplitl [B1]; · iexact B1
    isplitl [B2]; · iexact B2
    isplitl [B3] <;> iassumption
  isplitl [HT]; · iexact HT
  isplitl [HB]; · iexact HB
  iexact HO

/-! ## The end -/

theorem tri_out (o : Memref sig .tc .vmem S2048x512 .bf16) (ho : o.IsWhole) (d : Bool) (j : Fin 2) :
    Tri X K c iprop(recvKit c 6 j d ∗ slotAt X c d 7 ∗ heldAny c o (outR d j).set ∗ ow c []) (outP o ho d j)
      iprop(recvDone X c 6 j d ∗ slotAt X c d 7 ∗ held c o (outR d j).set fullShare (OUT X c) ∗ ow c []) := by
  intro Kt
  unfold outP
  rw [wp_bind]
  iintro ⟨#He, ⟨Hr, Hx, Ho, HO⟩, Hk⟩
  iapply (tri_recv d 6 j [] (fun _ h => absurd h List.not_mem_nil) _)
  isplitr; · iexact He
  isplitl [Hr HO]; · isplitl [Hr] <;> iassumption
  unfold recvDone slotAt
  rw [show ((6 : Fin 7).val) = 6 from rfl]
  iintro ⟨⟨Hv, Hsp⟩, HO⟩
  rw [Prog.bind_lift]
  iapply (wp_load_held c (m := rvM d) (S := (rvR 6 j).set) (q := fullShare) (X := RV X d 6 c) (Finset.Subset.refl _)) $$ Hv
  iintro Hv
  rw [Prog.bind_lift]
  iapply (wp_load_held c (m := xfM d) (S := (slotR (par (7 : Fin 8))).set) (q := fullShare) (X := XF X d 7 c) (pc_subset 1 j)) $$ Hx
  iintro Hx
  rw [Prog.bind_lift]
  iapply (wp_load_any c) $$ Ho
  iintro %_ Ho
  unfold Prog.lift
  iapply (wp_store_held c (OUT_piece X d c j)) $$ Ho
  iintro Ho
  rw [wp_ret]; imodintro
  iapply Hk
  isplitl [Hv Hsp]; · isplitl [Hv] <;> iassumption
  isplitl [Hx]; · iexact Hx
  isplitl [Ho] <;> iassumption

theorem tri_end (o : Memref sig .tc .vmem S2048x512 .bf16) (ho : o.IsWhole) :
    Tri X K c
      iprop(fly X c 7 ∗ all4 (recvKit c 6) ∗ all4 (fun j d => heldAny c o (outR d j).set) ∗ all4 (busy c 5) ∗ all4 (busy c 6) ∗ ow c [])
      (endP c o ho)
      iprop(ready X c 1 ∗ all4 (recvDone X c 6) ∗ all4 (fun j d => held c o (outR d j).set fullShare (OUT X c))
        ∗ all4 (fun j d => free c 1 j d 3) ∗ all4 (fun j d => free c 0 j d 4) ∗ ow c []) := by
  intro Kt
  unfold endP fly
  rw [show (all4 (recvKit c 6) : sProp 𝕄) = iprop(recvKit c 6 0 false ∗ recvKit c 6 0 true ∗ recvKit c 6 1 false ∗ recvKit c 6 1 true) from rfl,
    show (all4 (fun j d => heldAny c o (outR d j).set) : sProp 𝕄) = iprop(heldAny c o (outR false 0).set ∗ heldAny c o (outR true 0).set
      ∗ heldAny c o (outR false 1).set ∗ heldAny c o (outR true 1).set) from rfl]
  iintro ⟨#He, ⟨⟨Ff, Ft⟩, ⟨R1, R2, R3, R4⟩, ⟨O1, O2, O3, O4⟩, HB, HC, HO⟩, Hk⟩
  rw [wp_bind]
  iapply (tri_fetched false 7 _ _)
  isplitr; · iexact He
  isplitl [Ff HO]; · isplitl [Ff] <;> iassumption
  iintro ⟨If, Xf, HO⟩
  rw [wp_bind]
  iapply (tri_fetched true 7 _ _)
  isplitr; · iexact He
  isplitl [Ft HO]; · isplitl [Ft] <;> iassumption
  iintro ⟨It, Xt, HO⟩
  rw [wp_bind]
  iapply (tri_out o ho false 0 _)
  isplitr; · iexact He
  isplitl [R1 Xf O1 HO]
  · isplitl [R1]; · iexact R1
    isplitl [Xf]; · iexact Xf
    isplitl [O1] <;> iassumption
  iintro ⟨R1, Xf, O1, HO⟩
  rw [wp_bind]
  iapply (tri_out o ho true 0 _)
  isplitr; · iexact He
  isplitl [R2 Xt O2 HO]
  · isplitl [R2]; · iexact R2
    isplitl [Xt]; · iexact Xt
    isplitl [O2] <;> iassumption
  iintro ⟨R2, Xt, O2, HO⟩
  rw [wp_bind]
  iapply (tri_out o ho false 1 _)
  isplitr; · iexact He
  isplitl [R3 Xf O3 HO]
  · isplitl [R3]; · iexact R3
    isplitl [Xf]; · iexact Xf
    isplitl [O3] <;> iassumption
  iintro ⟨R3, Xf, O3, HO⟩
  rw [wp_bind]
  iapply (tri_out o ho true 1 _)
  isplitr; · iexact He
  isplitl [R4 Xt O4 HO]
  · isplitl [R4]; · iexact R4
    isplitl [Xt]; · iexact Xt
    isplitl [O4] <;> iassumption
  iintro ⟨R4, Xt, O4, HO⟩
  rw [wp_bind]
  iapply (tri_sents 5 [] _)
  isplitr; · iexact He
  isplitl [HB HO]; · isplitl [HB] <;> iassumption
  iintro ⟨HB, HO⟩
  iapply (tri_sents 6 [] _)
  isplitr; · iexact He
  isplitl [HC HO]; · isplitl [HC] <;> iassumption
  iintro ⟨HC, HO⟩
  iapply Hk
  isplitl [If It Xf Xt]
  · unfold ready
    isplitl [If Xf]
    · isplitl [If]; · iexact If
      iapply (slot_any false 7) $$ Xf
    · isplitl [It]; · iexact It
      iapply (slot_any true 7) $$ Xt
  unfold all4
  isplitl [R1 R2 R3 R4]
  · isplitl [R1]; · iexact R1
    isplitl [R2]; · iexact R2
    isplitl [R3] <;> iassumption
  isplitl [O1 O2 O3 O4]
  · isplitl [O1]; · iexact O1
    isplitl [O2]; · iexact O2
    isplitl [O3] <;> iassumption
  isplitl [HB]; · iexact HB
  isplitl [HC]; · iexact HC
  iexact HO

/-! ## The whole -/

variable (X c)
/-- What the body takes, the staging buffer `o` of its result included, -/
def bodyIn (o : Memref sig .tc .vmem S2048x512 .bf16) : sProp 𝕄 :=
  iprop(ready X c 0 ∗ ready X c 1 ∗ (barTok c false ∗ barTok c true) ∗ (handed false c ∗ handed true c) ∗ barWait c
    ∗ all4 (fun j d => free c 0 j d 0) ∗ all4 (fun j d => free c 1 j d 0)
    ∗ bigSep Finset.univ (fun t : Fin 7 => all4 (sendTok c t)) ∗ bigSep Finset.univ (fun t : Fin 7 => all4 (recvKit c t))
    ∗ all4 (fun j d => heldAny c o (outR d j).set) ∗ ow c allL)
/-- and what it leaves: the result's four parts there, every cell past its last round. -/
def bodyOut (o : Memref sig .tc .vmem S2048x512 .bf16) : sProp 𝕄 :=
  iprop(ready X c 0 ∗ ready X c 1 ∗ spent c kBar ∗ all4 (fun j d => free c 0 j d 4) ∗ all4 (fun j d => free c 1 j d 3)
    ∗ bigSep Finset.univ (fun t : Fin 7 => all4 (recvDone X c t))
    ∗ all4 (fun j d => held c o (outR d j).set fullShare (OUT X c)) ∗ ow c [])
variable {X c}

theorem tri_hops_first (l : List Item) (hl : ∀ x ∈ l, 2 < levelOf x) :
    Tri X K c iprop(fly X c 1 ∗ all4 (recvKit c 0) ∗ all4 (fun j d => free c 1 j d 0) ∗ all4 (sendKit c 1) ∗ ow c (hopL 1 ++ l))
      (hopsP c 0) iprop(ready X c 1 ∗ all4 (recvDone X c 0) ∗ all4 (busy c 1) ∗ ow c l) := tri_hops 0 l hl
theorem tri_hops_last :
    Tri X K c iprop(fly X c 6 ∗ all4 (recvKit c 5) ∗ all4 (fun j d => free c 0 j d 3) ∗ all4 (sendKit c 6) ∗ ow c (hopL 6 ++ []))
      (hopsP c 5) iprop(ready X c 0 ∗ all4 (recvDone X c 5) ∗ all4 (busy c 6) ∗ ow c []) :=
  tri_hops 5 [] (fun _ h => absurd h List.not_mem_nil)
theorem tri_mid_0 (l : List Item) (hl : ∀ x ∈ l, 3 < levelOf x) :
    Tri X K c iprop(all4 (busy c 0) ∗ fly X c 2 ∗ all4 (recvKit c 1) ∗ all4 (sendKit c 2) ∗ ow c (hopL 2 ++ l))
      (midP c 0) iprop(fly X c 4 ∗ all4 (recvDone X c 1) ∗ all4 (busy c 2) ∗ ow c l) := tri_mid 0 l hl
theorem tri_mid_1 (l : List Item) (hl : ∀ x ∈ l, 4 < levelOf x) :
    Tri X K c iprop(all4 (busy c 1) ∗ fly X c 3 ∗ all4 (recvKit c 2) ∗ all4 (sendKit c 3) ∗ ow c (hopL 3 ++ l))
      (midP c 1) iprop(fly X c 5 ∗ all4 (recvDone X c 2) ∗ all4 (busy c 3) ∗ ow c l) := tri_mid 1 l hl
theorem tri_mid_2 (l : List Item) (hl : ∀ x ∈ l, 5 < levelOf x) :
    Tri X K c iprop(all4 (busy c 2) ∗ fly X c 4 ∗ all4 (recvKit c 3) ∗ all4 (sendKit c 4) ∗ ow c (hopL 4 ++ l))
      (midP c 2) iprop(fly X c 6 ∗ all4 (recvDone X c 3) ∗ all4 (busy c 4) ∗ ow c l) := tri_mid 2 l hl
theorem tri_mid_3 (l : List Item) (hl : ∀ x ∈ l, 6 < levelOf x) :
    Tri X K c iprop(all4 (busy c 3) ∗ fly X c 5 ∗ all4 (recvKit c 4) ∗ all4 (sendKit c 5) ∗ ow c (hopL 5 ++ l))
      (midP c 3) iprop(fly X c 7 ∗ all4 (recvDone X c 4) ∗ all4 (busy c 5) ∗ ow c l) := tri_mid 3 l hl

theorem tri_body (o : Memref sig .tc .vmem S2048x512 .bf16) (ho : o.IsWhole) :
    Tri X K c (bodyIn X c o) (bodyP c o ho) (bodyOut X c o) := by
  intro Kt
  unfold bodyP bodyIn
  rw [seven (fun t => all4 (recvKit c t))]
  iintro ⟨#He, ⟨Ra, Rb, HB, HG, HW, Fa, Fb, HT, ⟨R0, R1, R2, R3, R4, R5, R6⟩, Ho, HO⟩, Hk⟩
  rw [wp_bind]
  iapply (tri_start _)
  isplitr; · iexact He
  isplitl [Ra Rb HB HG HW Fa HT HO]
  · isplitl [Ra]; · iexact Ra
    isplitl [Rb]; · iexact Rb
    isplitl [HB]; · iexact HB
    isplitl [HG]; · iexact HG
    isplitl [HW]; · iexact HW
    isplitl [Fa]; · iexact Fa
    isplitl [HT] <;> iassumption
  unfold kitsLeft
  iintro ⟨Y1, Y2, B0, ⟨S1, S2, S3, S4, S5, S6⟩, Hsp, HO⟩
  rw [wp_bind]
  iapply (tri_hops_first (hopL 2 ++ (hopL 3 ++ (hopL 4 ++ (hopL 5 ++ (hopL 6 ++ []))))) (by decide) _)
  isplitr; · iexact He
  isplitl [Y1 R0 Fb S1 HO]
  · isplitl [Y1]; · iexact Y1
    isplitl [R0]; · iexact R0
    isplitl [Fb]; · iexact Fb
    isplitl [S1]; · iexact S1
    iexact HO
  iintro ⟨Y1, R0, B1, HO⟩
  rw [wp_bind]
  iapply (tri_fetches 3 _)
  isplitr; · iexact He
  isplitl [Y1]; · iexact Y1
  iintro Y3
  rw [wp_bind]
  iapply (tri_mid_0 (hopL 3 ++ (hopL 4 ++ (hopL 5 ++ (hopL 6 ++ [])))) (by decide) _)
  isplitr; · iexact He
  isplitl [B0 Y2 R1 S2 HO]
  · isplitl [B0]; · iexact B0
    isplitl [Y2]; · iexact Y2
    isplitl [R1]; · iexact R1
    isplitl [S2]; · iexact S2
    iexact HO
  iintro ⟨Y4, R1, B2, HO⟩
  rw [wp_bind]
  iapply (tri_mid_1 (hopL 4 ++ (hopL 5 ++ (hopL 6 ++ []))) (by decide) _)
  isplitr; · iexact He
  isplitl [B1 Y3 R2 S3 HO]
  · isplitl [B1]; · iexact B1
    isplitl [Y3]; · iexact Y3
    isplitl [R2]; · iexact R2
    isplitl [S3]; · iexact S3
    iexact HO
  iintro ⟨Y5, R2, B3, HO⟩
  rw [wp_bind]
  iapply (tri_mid_2 (hopL 5 ++ (hopL 6 ++ [])) (by decide) _)
  isplitr; · iexact He
  isplitl [B2 Y4 R3 S4 HO]
  · isplitl [B2]; · iexact B2
    isplitl [Y4]; · iexact Y4
    isplitl [R3]; · iexact R3
    isplitl [S4]; · iexact S4
    iexact HO
  iintro ⟨Y6, R3, B4, HO⟩
  rw [wp_bind]
  iapply (tri_mid_3 (hopL 6 ++ []) (by decide) _)
  isplitr; · iexact He
  isplitl [B3 Y5 R4 S5 HO]
  · isplitl [B3]; · iexact B3
    isplitl [Y5]; · iexact Y5
    isplitl [R4]; · iexact R4
    isplitl [S5]; · iexact S5
    iexact HO
  iintro ⟨Y7, R4, B5, HO⟩
  rw [wp_bind]
  iapply (tri_sents 4 _ _)
  isplitr; · iexact He
  isplitl [B4 HO]
  · isplitl [B4]; · iexact B4
    iexact HO
  iintro ⟨Fa, HO⟩
  rw [wp_bind]
  iapply (tri_hops_last _)
  isplitr; · iexact He
  isplitl [Y6 R5 Fa S6 HO]
  · isplitl [Y6]; · iexact Y6
    isplitl [R5]; · iexact R5
    isplitl [Fa]; · iexact Fa
    isplitl [S6]; · iexact S6
    iexact HO
  iintro ⟨Y6, R5, B6, HO⟩
  iapply (tri_end o ho _)
  isplitr; · iexact He
  isplitl [Y7 R6 Ho B5 B6 HO]
  · isplitl [Y7]; · iexact Y7
    isplitl [R6]; · iexact R6
    isplitl [Ho]; · iexact Ho
    isplitl [B5]; · iexact B5
    isplitl [B6] <;> iassumption
  iintro ⟨Y7, R6, Ho, Fb, Fa, HO⟩
  iapply Hk
  unfold bodyOut
  rw [seven (fun t => all4 (recvDone X c t))]
  isplitl [Y6]; · iexact Y6
  isplitl [Y7]; · iexact Y7
  isplitl [Hsp]; · iexact Hsp
  isplitl [Fa]; · iexact Fa
  isplitl [Fb]; · iexact Fb
  isplitl [R0 R1 R2 R3 R4 R5 R6]
  · isplitl [R0]; · iexact R0
    isplitl [R1]; · iexact R1
    isplitl [R2]; · iexact R2
    isplitl [R3]; · iexact R3
    isplitl [R4]; · iexact R4
    isplitl [R5] <;> iassumption
  isplitl [Ho] <;> iassumption

end Cert.KernelIdeal.Sum

end
-- ==== Proof.Parts.lean ====
/-
  Buffers in parts: held part by part, and together again.
-/
module

public import proofs.«01_k».proof.Proof.Body

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

/-! ## Families of parts -/

section Family

variable {I ι : Type} [DecidableEq I] [DecidableEq ι] (P : Finset ι → sProp (MT nD τ sig Unit (Elt F) ℕ UU ℕ)) (S : I → Finset ι)

/-- What splits along two disjoint sets splits along a family, -/
theorem family_split (hP : ∀ A B, Disjoint A B → P (A ∪ B) ⊢ iprop(P A ∗ P B)) (hd : ∀ a b, a ≠ b → Disjoint (S a) (S b)) (K : Finset I) :
    P (K.biUnion S) ⊢ bigSep K fun a => P (S a) := by
  induction K using Finset.induction_on with
  | empty => rw [bigSep_empty]; iintro -; iempintro
  | insert a K ha ih =>
    rw [Finset.biUnion_insert, show bigSep (insert a K) (fun a => P (S a)) = iprop(P (S a) ∗ bigSep K fun a => P (S a)) from bigSep_insert ha]
    iintro H
    ihave H := (hP _ _ ((Finset.disjoint_biUnion_right _ _ _).mpr fun b hb => hd a b (fun e => ha (e ▸ hb)))) $$ H
    icases H with ⟨H1, H2⟩
    isplitl [H1]; · iexact H1
    iapply ih $$ H2

/-- and what joins joins. -/
theorem family_join (hP : ∀ A B, Disjoint A B → iprop(P A ∗ P B) ⊢ P (A ∪ B)) (hd : ∀ a b, a ≠ b → Disjoint (S a) (S b)) (K : Finset I)
    (hK : K.Nonempty) : bigSep K (fun a => P (S a)) ⊢ P (K.biUnion S) := by
  induction K using Finset.induction_on with
  | empty => exact absurd hK Finset.not_nonempty_empty
  | insert a K ha ih =>
    rcases K.eq_empty_or_nonempty with rfl | hK'
    · rw [LawfulSingleton.insert_empty_eq, bigSep_singleton, Finset.singleton_biUnion]
    · rw [Finset.biUnion_insert, show bigSep (insert a K) (fun a => P (S a)) = iprop(P (S a) ∗ bigSep K fun a => P (S a)) from bigSep_insert ha]
      iintro ⟨H1, H2⟩
      ihave H2 := (ih hK') $$ H2
      iapply (hP _ _ ((Finset.disjoint_biUnion_right _ _ _).mpr fun b hb => hd a b (fun e => ha (e ▸ hb))))
      isplitl [H1] <;> iassumption

end Family

section Parts

variable (c : Dev nD) {sp : Space} {s : Shape} {e : EltTy} (m : Memref sig .tc sp s e)

theorem any_held (S : Finset s.Idx) : heldAny c m S ⊢ (iprop(∃ X, held c m S fullShare X) : sProp 𝕄) := by
  unfold heldAny held
  iintro ⟨%f, H⟩
  iexists (m.view.read (Elt F) f)
  iexists f
  isplitr; · ipureintro; exact fun _ _ => rfl
  iexact H

theorem any_split (A B : Finset s.Idx) (h : Disjoint A B) :
    heldAny c m (A ∪ B) ⊢ (iprop(heldAny c m A ∗ heldAny c m B) : sProp 𝕄) := by
  iintro H
  ihave H := (any_held c m _) $$ H
  icases H with ⟨%X, H⟩
  ihave H := (held_split c m h) $$ H
  icases H with ⟨H1, H2⟩
  isplitl [H1]
  · iapply (held_any c m) $$ H1
  · iapply (held_any c m) $$ H2

theorem any_join (A B : Finset s.Idx) (h : Disjoint A B) :
    iprop(heldAny c m A ∗ heldAny c m B) ⊢ (heldAny c m (A ∪ B) : sProp 𝕄) := by
  iintro ⟨H1, H2⟩
  ihave H1 := (any_held c m _) $$ H1
  icases H1 with ⟨%X, H1⟩
  ihave H2 := (any_held c m _) $$ H2
  icases H2 with ⟨%Y, H2⟩
  ihave H1 := (held_congr c m (Y := A.piecewise X Y) fun i hi => (Finset.piecewise_eq_of_mem _ _ _ hi).symm) $$ H1
  ihave H2 := (held_congr c m (Y := A.piecewise X Y) fun i hi =>
    (Finset.piecewise_eq_of_notMem _ _ _ (fun h' => Finset.disjoint_left.mp h h' hi)).symm) $$ H2
  iapply (held_any c m)
  iapply (held_join c m h)
  isplitl [H1] <;> iassumption

variable {I : Type} [Fintype I] [DecidableEq I] [Nonempty I] (r : I → Rect s)
  (hd : ∀ a b, a ≠ b → Disjoint (r a).set (r b).set) (hc : ∀ i, ∃ a, i ∈ (r a).set)
include hd hc

theorem cover_eq : Finset.univ = Finset.univ.biUnion fun a => (r a).set :=
  (Finset.eq_univ_of_forall fun i => Finset.mem_biUnion.mpr ((hc i).imp fun a ha => ⟨Finset.mem_univ a, ha⟩)).symm

/-- A buffer is the rectangles it is cut into, -/
theorem any_parts : heldAny c m Finset.univ ⊢ (bigSep Finset.univ fun a => heldAny c m (r a).set : sProp 𝕄) := by
  rw [cover_eq r hd hc]
  exact family_split (heldAny c m) (fun a => (r a).set) (any_split c m) hd _
theorem parts_any : (bigSep Finset.univ fun a => heldAny c m (r a).set) ⊢ (heldAny c m Finset.univ : sProp 𝕄) := by
  conv_rhs => rw [cover_eq r hd hc]
  exact family_join (heldAny c m) (fun a => (r a).set) (any_join c m) hd _ Finset.univ_nonempty
/-- contents stated included. -/
theorem parts_held {q : PosShare TreeShare} {X : s.Idx → Elt F e} :
    (bigSep Finset.univ fun a => held c m (r a).set q X) ⊢ (held c m Finset.univ q X : sProp 𝕄) := by
  conv_rhs => rw [cover_eq r hd hc]
  exact family_join (fun S => held c m S q X) (fun a => (r a).set) (fun _ _ h => held_join c m h) hd _ Finset.univ_nonempty

end Parts

/-! ## Whole buffers -/

theorem held_whole (c : Dev nD) (b : Ref sig .tc) (q : PosShare TreeShare) (X : b.ty.Contents (Elt F)) :
    (held c (Memref.whole b) Finset.univ q X : sProp 𝕄) ⊢ ((c : Thread nD τ).loc b) ↦{q} X := by
  unfold held
  simp only [Memref.view_whole, View.read_whole, View.setOn_whole_univ]
  iintro ⟨%f, %hf, H⟩
  obtain rfl : f = X := funext fun i => hf i (Finset.mem_univ i)
  iexact H

theorem whole_held (c : Dev nD) (b : Ref sig .tc) (q : PosShare TreeShare) (X : b.ty.Contents (Elt F)) :
    (((c : Thread nD τ).loc b) ↦{q} X) ⊢ (held c (Memref.whole b) Finset.univ q X : sProp 𝕄) := by
  unfold held
  simp only [Memref.view_whole, View.read_whole, View.setOn_whole_univ]
  iintro H
  iexists X
  isplitr; · ipureintro; exact fun _ _ => rfl
  iexact H

theorem any_whole (c : Dev nD) (b : Ref sig .tc) :
    (heldAny c (Memref.whole b) Finset.univ : sProp 𝕄) = iprop(∃ f : Buf (Elt F) ((c : Thread nD τ).loc b), ((c : Thread nD τ).loc b) ↦{fullShare} f) := by
  unfold heldAny
  simp only [Memref.view_whole, View.setOn_whole_univ]

/-! ## The kernel's buffers cut up -/

theorem slot_disjoint (a b : Fin 2) (h : a ≠ b) : Disjoint (slotR a).set (slotR b).set := by
  refine Finset.disjoint_left.mpr fun i h1 h2 => h (Fin.ext ?_)
  have h1 : a.val ≤ (i 0).val ∧ (i 0).val < a.val + 1 := Rect.mem_set_unit.mp h1 0
  have h2 : b.val ≤ (i 0).val ∧ (i 0).val < b.val + 1 := Rect.mem_set_unit.mp h2 0
  omega
theorem slot_cover (i : S2x1024x512.Idx) : ∃ a, i ∈ (slotR a).set := by
  refine ⟨i 0, Rect.mem_set_unit.mpr fun a => ?_⟩
  have h1 : (i 1).val < 1024 := (i 1).isLt
  have h2 : (i 2).val < 512 := (i 2).isLt
  fin_cases a
  · exact ⟨le_refl _, Nat.lt_succ_self _⟩
  · exact ⟨Nat.zero_le _, (by omega : (i 1).val < 0 + 1024)⟩
  · exact ⟨Nat.zero_le _, (by omega : (i 2).val < 0 + 512)⟩

theorem pc_disjoint (a b : Fin 2 × Fin 2) (h : a ≠ b) : Disjoint (pcR a.1 a.2).set (pcR b.1 b.2).set := by
  refine Finset.disjoint_left.mpr fun i h1 h2 => h (Prod.ext (Fin.ext ?_) (Fin.ext ?_))
  · have h1 : a.1.val ≤ (i 0).val ∧ (i 0).val < a.1.val + 1 := Rect.mem_set_unit.mp h1 0
    have h2 : b.1.val ≤ (i 0).val ∧ (i 0).val < b.1.val + 1 := Rect.mem_set_unit.mp h2 0
    omega
  · have h1 : 512 * a.2.val ≤ (i 1).val ∧ (i 1).val < 512 * a.2.val + 512 := Rect.mem_set_unit.mp h1 1
    have h2 : 512 * b.2.val ≤ (i 1).val ∧ (i 1).val < 512 * b.2.val + 512 := Rect.mem_set_unit.mp h2 1
    omega
theorem pc_cover (i : S2x1024x512.Idx) : ∃ a : Fin 2 × Fin 2, i ∈ (pcR a.1 a.2).set := by
  have h1 : (i 1).val < 1024 := (i 1).isLt
  have h2 : (i 2).val < 512 := (i 2).isLt
  refine ⟨(i 0, ⟨(i 1).val / 512, by omega⟩), Rect.mem_set_unit.mpr fun a => ?_⟩
  fin_cases a
  · exact ⟨le_refl _, Nat.lt_succ_self _⟩
  · exact (by omega : 512 * ((i 1).val / 512) ≤ (i 1).val ∧ (i 1).val < 512 * ((i 1).val / 512) + 512)
  · exact ⟨Nat.zero_le _, (by omega : (i 2).val < 0 + 512)⟩

theorem rv_disjoint (a b : Fin 7 × Fin 2) (h : a ≠ b) : Disjoint (rvR a.1 a.2).set (rvR b.1 b.2).set := by
  refine Finset.disjoint_left.mpr fun i h1 h2 => h (Prod.ext (Fin.ext ?_) (Fin.ext ?_))
  · have h1 : a.1.val ≤ (i 0).val ∧ (i 0).val < a.1.val + 1 := Rect.mem_set_unit.mp h1 0
    have h2 : b.1.val ≤ (i 0).val ∧ (i 0).val < b.1.val + 1 := Rect.mem_set_unit.mp h2 0
    omega
  · have h1 : 512 * a.2.val ≤ (i 1).val ∧ (i 1).val < 512 * a.2.val + 512 := Rect.mem_set_unit.mp h1 1
    have h2 : 512 * b.2.val ≤ (i 1).val ∧ (i 1).val < 512 * b.2.val + 512 := Rect.mem_set_unit.mp h2 1
    omega
theorem rv_cover (i : S7x1024x512.Idx) : ∃ a : Fin 7 × Fin 2, i ∈ (rvR a.1 a.2).set := by
  have h1 : (i 1).val < 1024 := (i 1).isLt
  have h2 : (i 2).val < 512 := (i 2).isLt
  refine ⟨(i 0, ⟨(i 1).val / 512, by omega⟩), Rect.mem_set_unit.mpr fun a => ?_⟩
  fin_cases a
  · exact ⟨le_refl _, Nat.lt_succ_self _⟩
  · exact (by omega : 512 * ((i 1).val / 512) ≤ (i 1).val ∧ (i 1).val < 512 * ((i 1).val / 512) + 512)
  · exact ⟨Nat.zero_le _, (by omega : (i 2).val < 0 + 512)⟩

theorem out_disjoint (a b : Bool × Fin 2) (h : a ≠ b) : Disjoint (outR a.1 a.2).set (outR b.1 b.2).set := by
  refine Finset.disjoint_left.mpr fun i h1 h2 => ?_
  have h1 : 1024 * (cond a.1 1 0) + 512 * a.2.val ≤ (i 0).val ∧ (i 0).val < 1024 * (cond a.1 1 0) + 512 * a.2.val + 512 := Rect.mem_set_unit.mp h1 0
  have h2 : 1024 * (cond b.1 1 0) + 512 * b.2.val ≤ (i 0).val ∧ (i 0).val < 1024 * (cond b.1 1 0) + 512 * b.2.val + 512 := Rect.mem_set_unit.mp h2 0
  obtain ⟨d, j⟩ := a; obtain ⟨d', j'⟩ := b
  have hj := j.isLt; have hj' := j'.isLt
  cases d <;> cases d' <;> simp only [cond_false, cond_true] at h1 h2
  · exact h (Prod.ext rfl (Fin.ext (by show j.val = j'.val; omega)))
  · omega
  · omega
  · exact h (Prod.ext rfl (Fin.ext (by show j.val = j'.val; omega)))
theorem out_cover (i : S2048x512.Idx) : ∃ a : Bool × Fin 2, i ∈ (outR a.1 a.2).set := by
  have h0 : (i 0).val < 2048 := (i 0).isLt
  have h1 : (i 1).val < 512 := (i 1).isLt
  refine ⟨(decide (1024 ≤ (i 0).val), ⟨(i 0).val % 1024 / 512, by omega⟩), Rect.mem_set_unit.mpr fun a => ?_⟩
  have hx : 1024 * (cond (decide (1024 ≤ (i 0).val)) 1 0) + 512 * ((i 0).val % 1024 / 512) ≤ (i 0).val
      ∧ (i 0).val < 1024 * (cond (decide (1024 ≤ (i 0).val)) 1 0) + 512 * ((i 0).val % 1024 / 512) + 512 := by
    by_cases h : 1024 ≤ (i 0).val
    · simp only [h, decide_true, cond_true]; omega
    · simp only [h, decide_false, cond_false]; omega
  fin_cases a
  · exact hx
  · exact ⟨Nat.zero_le _, (by omega : (i 1).val < 0 + 512)⟩

end Cert.KernelIdeal.Sum

end
-- ==== Proof.Deal.lean ====
/-
  The launch, dealt: semaphores, tokens and credits to the cells and devices they are for.
-/
module

public import proofs.«01_k».proof.Proof.Parts

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

/-! ## Conjunctions by cell -/

theorem by_lane (Φ : Lane → sProp (MT nD τ sig Unit (Elt F) ℕ UU ℕ)) : bigSep Finset.univ Φ = (all4 (fun j d => Φ (j, d)) : sProp 𝕄) :=
  bigSep_univ_eq_bigSepL [(0, false), (0, true), (1, false), (1, true)] (by decide) (by decide) Φ
theorem by_hop (Φ : Fin 7 × Lane → sProp (MT nD τ sig Unit (Elt F) ℕ UU ℕ)) :
    bigSep Finset.univ Φ = (bigSep Finset.univ (fun t : Fin 7 => all4 (fun j d => Φ (t, j, d))) : sProp 𝕄) :=
  (bigSep_univ_prod Φ).trans (bigSep_congr fun t _ => by_lane fun l => Φ (t, l))
theorem by_slot (Φ : Fin 2 × Lane → sProp (MT nD τ sig Unit (Elt F) ℕ UU ℕ)) :
    bigSep Finset.univ Φ = (iprop(all4 (fun j d => Φ (0, j, d)) ∗ all4 (fun j d => Φ (1, j, d))) : sProp 𝕄) :=
  ((bigSep_univ_prod Φ).trans (bigSep_congr fun t _ => by_lane fun l => Φ (t, l))).trans
    (bigSep_univ_eq_bigSepL [0, 1] (by decide) (by decide) _)
theorem by_unit (Φ : Unit → sProp (MT nD τ sig Unit (Elt F) ℕ UU ℕ)) : bigSep Finset.univ Φ = (Φ () : sProp 𝕄) :=
  bigSep_univ_eq_bigSepL [()] (by decide) (by decide) Φ
theorem by_key (Φ : Key → sProp (MT nD τ sig Unit (Elt F) ℕ UU ℕ)) :
    bigSep Finset.univ Φ = (iprop(Φ kBar ∗ (all4 (fun j d => Φ (kSnd 0 (j, d))) ∗ all4 (fun j d => Φ (kSnd 1 (j, d))))
      ∗ bigSep Finset.univ (fun t : Fin 7 => all4 (fun j d => Φ (kRcv t (j, d))))) : sProp 𝕄) := by
  rw [bigSep_univ_sum, bigSep_univ_sum, by_unit, by_slot, by_hop]; rfl
theorem all4_sep (Φ Ψ : Fin 2 → Bool → sProp (MT nD τ sig Unit (Elt F) ℕ UU ℕ)) :
    (all4 (fun j d => iprop(Φ j d ∗ Ψ j d)) : sProp 𝕄) = iprop(all4 Φ ∗ all4 Ψ) := by
  rw [← by_lane fun l => iprop(Φ l.1 l.2 ∗ Ψ l.1 l.2), ← by_lane fun l => Φ l.1 l.2, ← by_lane fun l => Ψ l.1 l.2, bigSep_sep']

theorem swap (P Q R : sProp (MT nD τ sig Unit (Elt F) ℕ UU ℕ)) : iprop(P ∗ Q ∗ R) ⊢ (iprop(Q ∗ P ∗ R) : sProp 𝕄) := by
  iintro ⟨H1, H2, H3⟩
  isplitl [H2]; · iexact H2
  isplitl [H1] <;> iassumption

/-! ## The semaphores -/

/-- A device's own semaphores: the fetches', and those of the cells but the barrier's. -/
abbrev Own : Type := Lane ⊕ ((Fin 2 × Lane) ⊕ (Fin 7 × Lane))
instance own_decEq : DecidableEq Own := inferInstance
def osem : Own → SemLoc sig
  | .inl (k, d) => .dma (fSem d k)
  | .inr y => semOf (.inr y)

theorem fSem_injective {d d' : Bool} {k k' : Fin 2} (h : (SemLoc.dma (fSem d k) : SemLoc sig) = .dma (fSem d' k')) :
    (k, d) = (k', d') := by
  revert h; revert d d' k k'; decide

theorem ownSemFacts : Pipeline.OwnSemFacts cfg0.spec osem := by
  refine ⟨?_, ?_, ?_⟩
  · rintro (⟨k, d⟩ | ⟨k, j, d⟩ | ⟨t, j, d⟩)
    · fin_cases k <;> cases d <;> rfl
    · fin_cases k <;> fin_cases j <;> cases d <;> rfl
    · fin_cases t <;> fin_cases j <;> cases d <;> rfl
  · rintro (⟨k, d⟩ | y) (⟨k', d'⟩ | y') h
    · rw [fSem_injective h]
    · have := congrArg keyOf (show SemLoc.dma (fSem d k) = semOf (.inr y') from h)
      rw [keyOf_fSem, keyOf_semOf] at this; cases this
    · have := congrArg keyOf (show semOf (.inr y) = SemLoc.dma (fSem d' k') from h)
      rw [keyOf_fSem, keyOf_semOf] at this; cases this
    · exact congrArg Sum.inr (Sum.inr.inj (semOf_injective (show semOf (.inr y) = semOf (.inr y') from h)))
  · rintro (⟨k, d⟩ | ⟨k, j, d⟩ | ⟨t, j, d⟩) w s
    · fin_cases w; fin_cases s; fin_cases k <;> cases d <;> decide
    · fin_cases w; fin_cases s; fin_cases k <;> fin_cases j <;> cases d <;> decide
    · fin_cases w; fin_cases s; fin_cases t <;> fin_cases j <;> cases d <;> decide

variable (c : Dev nD)

/-- The fetches' semaphores at zero. -/
def fetchSems : sProp 𝕄 := all4 fun k d => semVal ((c : Thread nD τ), .dma (fSem d k)) 0

/-- A device's semaphores at zero: the fetches', and the cells'. -/
theorem sems_eq :
    (iprop(unscopedSems0 c ∗ Pipeline.ownSems0 (Ix := Unit) (Name := ℕ) (U := UU) (Lvl := ℕ) (Val := Elt F) (τ := τ) osem c) : sProp 𝕄)
      = iprop(fetchSems c ∗ bigSep Finset.univ fun x : Key => semVal (cellAt c x) 0) := by
  have h1 : (unscopedSems0 c : sProp 𝕄) = semVal (cellAt c kBar) 0 := by
    unfold unscopedSems0; rw [bigSep_eq_bigSepL_of_eq [SemLoc.reg barSem] (by decide) (by decide)]; rfl
  have h2 : (Pipeline.ownSems0 (Ix := Unit) (Name := ℕ) (U := UU) (Lvl := ℕ) (Val := Elt F) (τ := τ) osem c : sProp 𝕄)
      = iprop(fetchSems c ∗ bigSep Finset.univ fun y : (Fin 2 × Lane) ⊕ (Fin 7 × Lane) => semVal (cellAt c (.inr y)) 0) := by
    unfold Pipeline.ownSems0 fetchSems
    rw [bigSep_univ_sum, by_lane]; rfl
  have h3 : (bigSep Finset.univ fun x : Key => (semVal (cellAt c x) 0 : sProp 𝕄))
      = iprop(semVal (cellAt c kBar) 0 ∗ bigSep Finset.univ fun y : (Fin 2 × Lane) ⊕ (Fin 7 × Lane) => semVal (cellAt c (.inr y)) 0) := by
    rw [bigSep_univ_sum, by_unit]; rfl
  rw [h1, h2, h3]
  exact Entails.antisymm (swap _ _ _) (swap _ _ _)

/-! ## The tokens -/

/-- A duty of a device's cells: the barrier's two, a sender's by hop, a receiver's. -/
abbrev Tok : Type := Bool ⊕ ((Fin 7 × Lane) ⊕ (Fin 7 × Lane))
def tokKey : Tok → Key × ℕ × Bool
  | .inl d => (kBar, 0, d)
  | .inr (.inl (t, x)) => (kSnd (par t) x, t.val / 2, false)
  | .inr (.inr (t, x)) => (kRcv t x, 0, false)
theorem tokKey_injective : Function.Injective tokKey := by
  rintro (d | ⟨t, x⟩ | ⟨t, x⟩) (d' | ⟨t', x'⟩ | ⟨t', x'⟩) h
  · rw [show d = d' from congrArg (fun p => p.2.2) h]
  · cases congrArg Prod.fst h
  · cases congrArg Prod.fst h
  · cases congrArg Prod.fst h
  · have h1 : (par t, x) = (par t', x') := Sum.inl.inj (Sum.inr.inj (congrArg Prod.fst h))
    have h2 : t.val / 2 = t'.val / 2 := congrArg (fun p => p.2.1) h
    have h3 : t.val % 2 = t'.val % 2 := congrArg (fun p => p.1.val) h1
    have h4 : x = x' := congrArg Prod.snd h1
    have h5 : t = t' := Fin.ext (by omega)
    rw [h4, h5]
  · cases congrArg Prod.fst h
  · cases congrArg Prod.fst h
  · cases congrArg Prod.fst h
  · rw [show (t, x) = (t', x') from Sum.inr.inj (Sum.inr.inj (congrArg Prod.fst h))]
def tokAt (p : Dev nD × Tok) : GSem nD τ sig × ℕ × Bool := (cellAt p.1 (tokKey p.2).1, (tokKey p.2).2)
theorem tokAt_injective : Function.Injective tokAt := by
  rintro ⟨c, i⟩ ⟨c', i'⟩ h
  have h1 : (c, (tokKey i).1) = (c', (tokKey i').1) := cellAt_injective (congrArg Prod.fst h)
  have h2 : (tokKey i).2 = (tokKey i').2 := congrArg (fun x : GSem nD τ sig × ℕ × Bool => x.2) h
  have h3 : i = i' := tokKey_injective (Prod.ext (show (tokKey i).1 = (tokKey i').1 from congrArg Prod.snd h1) h2)
  rw [h3, show c = c' from congrArg Prod.fst h1]

def ringCells : Finset (GSem nD τ sig) := Finset.univ.map ⟨fun p : Dev nD × Key => cellAt p.1 p.2, cellAt_injective⟩
def ringToks : Finset (GSem nD τ sig × ℕ × Bool) := Finset.univ.map ⟨tokAt, tokAt_injective⟩

/-- The tokens of a device's cells, -/
def toks : sProp 𝕄 :=
  iprop((dutyTok ER (cellAt c kBar) 0 false ∗ dutyTok ER (cellAt c kBar) 0 true)
    ∗ (bigSep Finset.univ fun y : Fin 7 × Lane => dutyTok ER (cellAt c (kSnd (par y.1) y.2)) (y.1.val / 2) false)
    ∗ bigSep Finset.univ fun y : Fin 7 × Lane => dutyTok ER (cellAt c (kRcv y.1 y.2)) 0 false)
/-- and those it pays with. -/
def payToks : sProp 𝕄 :=
  iprop((barTok c false ∗ barTok c true) ∗ bigSep Finset.univ fun t : Fin 7 => all4 (sendTok c t))

theorem toks_eq : (bigSep Finset.univ fun i : Tok => (dutyTok ER (tokAt (c, i)).1 (tokAt (c, i)).2.1 (tokAt (c, i)).2.2 : sProp 𝕄)) = toks c := by
  rw [bigSep_univ_sum, bigSep_univ_sum, bigSep_univ_eq_bigSepL [false, true] (by decide) (by decide)]; rfl

theorem payToks_eq : (payToks c : sProp 𝕄) = iprop((barTok c false ∗ barTok c true)
    ∗ (bigSep Finset.univ fun y : Fin 7 × Lane => dutyTok ER (cellAt c (kSnd (par y.1) y.2)) (y.1.val / 2) false)
    ∗ bigSep Finset.univ fun y : Fin 7 × Lane => dutyTok ER (cellAt (nbr y.2.2 c) (kRcv y.1 y.2)) 0 false) := by
  unfold payToks
  rw [← bigSep_sep' Finset.univ (fun y : Fin 7 × Lane => (dutyTok ER (cellAt c (kSnd (par y.1) y.2)) (y.1.val / 2) false : sProp 𝕄)), by_hop]
  rfl

/-- Around the ring in direction `d`. -/
def around (d : Bool) : Dev nD ≃ Dev nD := ⟨nbr d, prev d, prev_nbr d, nbr_prev d⟩
/-- The same, of a half of a hop. -/
def aroundHop : (Dev nD × (Fin 7 × Lane)) ≃ (Dev nD × (Fin 7 × Lane)) where
  toFun p := (nbr p.2.2.2 p.1, p.2)
  invFun p := (prev p.2.2.2 p.1, p.2)
  left_inv p := Prod.ext (prev_nbr _ _) rfl
  right_inv p := Prod.ext (nbr_prev _ _) rfl

/-- The tokens dealt around the ring. -/
theorem toks_around : (bigSep Finset.univ fun c : Dev nD => (toks c : sProp 𝕄)) ⊢ bigSep Finset.univ fun c : Dev nD => payToks c := by
  rw [bigSep_congr (s := Finset.univ) fun (c : Dev nD) _ => payToks_eq (F := F) c]
  unfold toks barTok
  simp only [bigSep_sep']
  rw [bigSep_univ_equiv (around false).symm (fun c : Dev nD => (dutyTok ER (cellAt c kBar) 0 false : sProp 𝕄)),
    bigSep_univ_equiv (around true).symm (fun c : Dev nD => (dutyTok ER (cellAt c kBar) 0 true : sProp 𝕄)),
    ← bigSep_univ_prod (fun p : Dev nD × (Fin 7 × Lane) => (dutyTok ER (cellAt p.1 (kRcv p.2.1 p.2.2)) 0 false : sProp 𝕄)),
    ← bigSep_univ_prod (fun p : Dev nD × (Fin 7 × Lane) => (dutyTok ER (cellAt (nbr p.2.2.2 p.1) (kRcv p.2.1 p.2.2)) 0 false : sProp 𝕄)),
    bigSep_univ_equiv aroundHop (fun p : Dev nD × (Fin 7 × Lane) => (dutyTok ER (cellAt p.1 (kRcv p.2.1 p.2.2)) 0 false : sProp 𝕄))]
  exact .rfl

/-! ## The credits -/

/-- Which cell a debt pays, at its device. -/
abbrev itemKey : Item → Key
  | .inl _ => kBar
  | .inr (t, x) => kRcv t x
/-- Who pays device `c`. -/
def payer (c : Dev nD) : Item → Dev nD
  | .inl d => nbr d c
  | .inr (_, _, d) => prev d c

theorem dest_iff (d c : Dev nD) (x : Item) (k : Key) : cellAt c k = dest d x ↔ d = payer c x ∧ k = itemKey x := by
  have key : ∀ (e : Dev nD) (k' : Key), cellAt c k = cellAt e k' ↔ c = e ∧ k = k' := fun e k' =>
    ⟨fun h => ⟨congrArg Prod.fst (cellAt_injective (a₁ := (c, k)) (a₂ := (e, k')) h), congrArg Prod.snd (cellAt_injective (a₁ := (c, k)) (a₂ := (e, k')) h)⟩,
      fun ⟨h1, h2⟩ => by rw [h1, h2]⟩
  rcases x with b | ⟨t, j, b⟩
  · refine (key _ _).trans (and_congr_left fun _ => ⟨fun h => ?_, fun h => ?_⟩)
    · rw [h]; exact (nbr_prev b d).symm
    · rw [h]; exact (prev_nbr b c).symm
  · refine (key _ _).trans (and_congr_left fun _ => ⟨fun h => ?_, fun h => ?_⟩)
    · rw [h]; exact (prev_nbr b d).symm
    · rw [h]; exact (nbr_prev b c).symm

/-- What all devices owe one cell, debt by debt. -/
theorem owed_sum (k : Key) (l : List Item) :
    (∑ d : Dev nD, oweOf d l (cellAt c k) ()) = (l.map fun x => if k = itemKey x then due x else 0).sum := by
  induction l with
  | nil => exact Finset.sum_eq_zero fun _ _ => rfl
  | cons x l ih =>
    rw [List.map_cons, List.sum_cons, ← ih, Nat.add_comm]
    have h : ∀ d : Dev nD, oweOf d (x :: l) (cellAt c k) () = oweOf d l (cellAt c k) () + if d = payer c x then (if k = itemKey x then due x else 0) else 0 := by
      intro d
      show (oweOf d l + tallyAt (dest d x) () (due x)) (cellAt c k) () = _
      rw [Pi.add_apply, Finsupp.add_apply, tallyAt_apply]
      congr 1
      by_cases h1 : d = payer c x
      · by_cases h2 : k = itemKey x
        · rw [if_pos ⟨(dest_iff d c x k).mpr ⟨h1, h2⟩, rfl⟩, if_pos h1, if_pos h2]
        · rw [if_neg (fun h => h2 ((dest_iff d c x k).mp h.1).2), if_pos h1, if_neg h2]
      · rw [if_neg (fun h => h1 ((dest_iff d c x k).mp h.1).1), if_neg h1]
    rw [Finset.sum_congr rfl fun d _ => h d, Finset.sum_add_distrib, Finset.sum_ite_eq' Finset.univ (payer c x), if_pos (Finset.mem_univ _)]

theorem owed_bar : (allL.map fun x => if kBar = itemKey x then due x else 0).sum = 2 := by
  simp [allL, hopL, due]
theorem owed_rcv (t : Fin 7) (j : Fin 2) (d : Bool) : (allL.map fun x => if kRcv t (j, d) = itemKey x then due x else 0).sum = NB := by
  fin_cases t <;> fin_cases j <;> cases d <;> simp [allL, hopL]

/-- What a device owes at the launch. -/
def O₀ (c : Dev nD) : CellTallies nD τ sig Unit := oweOf c allL

theorem launch_at (k : Key) (n : ℕ) (h : (allL.map fun x => if k = itemKey x then due x else 0).sum = n) :
    tallyOn (cellAt c k) (launchCredit (Pipeline.owing O₀) 0 (cellAt c k)) = (tallyAt (cellAt c k) () n : CellTallies nD τ sig Unit) := by
  unfold tallyAt
  refine congrArg _ (Finsupp.ext fun u => ?_)
  cases u
  rw [Pipeline.launchCredit_owing, Finsupp.single_eq_same]
  exact (owed_sum c k allL).trans h

/-- The launch's credits: the barrier's two units, the receivers'. -/
theorem creds : (Pipeline.launchCred O₀ c : sProp 𝕄) ⊢ iprop(cred (tallyAt (cellAt c kBar) () 2)
    ∗ bigSep Finset.univ fun t : Fin 7 => all4 fun j d => cred (tallyAt (cellAt c (kRcv t (j, d))) () NB)) := by
  unfold Pipeline.launchCred
  refine BIBase.Entails.trans (bigSep_subset (Finset.subset_univ (Finset.univ.map ⟨semOf, semOf_injective⟩))) ?_
  rw [bigSep_map, by_key]
  have h : (fun (t : Fin 7) => (all4 fun j d => cred (tallyAt (cellAt c (kRcv t (j, d))) () NB) : sProp 𝕄))
      = fun t => all4 fun j d => cred (tallyOn (cellAt c (kRcv t (j, d))) (launchCredit (Pipeline.owing O₀) 0 (cellAt c (kRcv t (j, d))))) :=
    funext fun t => congrArg all4 (funext fun j => funext fun d => congrArg cred (launch_at c _ _ (owed_rcv t j d)).symm)
  rw [h, ← launch_at c _ _ owed_bar]
  iintro ⟨H1, -, H2⟩
  isplitl [H1]; · iexact H1
  iexact H2

end Cert.KernelIdeal.Sum

end
-- ==== Proof.Ends.lean ====
/-
  What a device starts its body from and is left with, in whole buffers, semaphores and cells.
-/
module

public import proofs.«01_k».proof.Proof.Deal

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Cert.KernelIdeal Cert.KernelIdeal.Gen

variable {F : FTy → Type} [FloatOps F]

local notation "𝕄" => MT nD τ sig Unit (Elt F) ℕ UU ℕ

variable (X : Dev nD → S1x2048x4096.Idx → F .f32) (K : Dev nD × Key → ℕ) (c : Dev nD)

/-! ## The argument's array, in the fetches' shares -/

theorem src_halve (q : PosShare TreeShare) : src X c q ⊢ (iprop(src X c q.left ∗ src X c q.right) : sProp 𝕄) := by
  unfold src
  iintro H
  ihave H := (held_whole c main_arg0 q (X c)) $$ H
  ihave H := (pointsTo_share (PosShare.mem_left_op_right q)).1 $$ H
  icases H with ⟨H1, H2⟩
  isplitl [H1]
  · iapply (whole_held c main_arg0 q.left (X c)) $$ H1
  · iapply (whole_held c main_arg0 q.right (X c)) $$ H2
theorem src_join (q : PosShare TreeShare) : iprop(src X c q.left ∗ src X c q.right) ⊢ (src X c q : sProp 𝕄) := by
  unfold src
  iintro ⟨H1, H2⟩
  ihave H1 := (held_whole c main_arg0 q.left (X c)) $$ H1
  ihave H2 := (held_whole c main_arg0 q.right (X c)) $$ H2
  iapply (whole_held c main_arg0 q (X c))
  iapply (pointsTo_share (PosShare.mem_left_op_right q)).2
  isplitl [H1] <;> iassumption

theorem src_split : src X c fullShare ⊢ (all4 (fun k d => src X c (shr d k)) : sProp 𝕄) := by
  show _ ⊢ iprop(src X c fullShare.left.left ∗ src X c fullShare.right.left ∗ src X c fullShare.left.right ∗ src X c fullShare.right.right)
  iintro H
  ihave H := (src_halve X c fullShare) $$ H
  icases H with ⟨HL, HR⟩
  ihave HL := (src_halve X c fullShare.left) $$ HL
  ihave HR := (src_halve X c fullShare.right) $$ HR
  icases HL with ⟨H1, H2⟩
  icases HR with ⟨H3, H4⟩
  isplitl [H1]; · iexact H1
  isplitl [H3]; · iexact H3
  isplitl [H2] <;> iassumption
theorem src_gather : all4 (fun k d => src X c (shr d k)) ⊢ (src X c fullShare : sProp 𝕄) := by
  show iprop(src X c fullShare.left.left ∗ src X c fullShare.right.left ∗ src X c fullShare.left.right ∗ src X c fullShare.right.right) ⊢ _
  iintro ⟨H1, H3, H2, H4⟩
  iapply (src_join X c fullShare)
  isplitl [H1 H2]
  · iapply (src_join X c fullShare.left); isplitl [H1] <;> iassumption
  · iapply (src_join X c fullShare.right); isplitl [H3] <;> iassumption

/-! ## The buffers, in their pieces -/

/-- A device's own buffers, holding anything. -/
def scr : sProp 𝕄 :=
  iprop((heldAny c (xfM false) Finset.univ ∗ heldAny c (xfM true) Finset.univ)
    ∗ (heldAny c (stM false) Finset.univ ∗ heldAny c (stM true) Finset.univ)
    ∗ (heldAny c (rvM false) Finset.univ ∗ heldAny c (rvM true) Finset.univ))

theorem slots_split (d : Bool) : heldAny c (xfM d) Finset.univ ⊢ (iprop(slotAny c d 0 ∗ slotAny c d 1) : sProp 𝕄) :=
  (any_parts c (xfM d) slotR slot_disjoint slot_cover).trans (Entails.of_eq (bigSep_univ_eq_bigSepL [0, 1] (by decide) (by decide) _))
theorem slots_join (d : Bool) : iprop(slotAny c d 0 ∗ slotAny c d 1) ⊢ (heldAny c (xfM d) Finset.univ : sProp 𝕄) :=
  (Entails.of_eq (bigSep_univ_eq_bigSepL [0, 1] (by decide) (by decide) (fun k => slotAny c d k)).symm).trans
    (parts_any c (xfM d) slotR slot_disjoint slot_cover)

/-- A half of a sending slot. -/
abbrev pcAny (k j : Fin 2) (d : Bool) : sProp 𝕄 := heldAny c (stM d) (pcR k j).set

theorem pcs_split (d : Bool) : heldAny c (stM d) Finset.univ ⊢ (iprop(pcAny c 0 0 d ∗ pcAny c 0 1 d ∗ pcAny c 1 0 d ∗ pcAny c 1 1 d) : sProp 𝕄) :=
  (any_parts c (stM d) (fun a : Fin 2 × Fin 2 => pcR a.1 a.2) pc_disjoint pc_cover).trans
    (Entails.of_eq (bigSep_univ_eq_bigSepL [(0, 0), (0, 1), (1, 0), (1, 1)] (by decide) (by decide) _))
theorem pcs_join (d : Bool) : iprop(pcAny c 0 0 d ∗ pcAny c 0 1 d ∗ pcAny c 1 0 d ∗ pcAny c 1 1 d) ⊢ (heldAny c (stM d) Finset.univ : sProp 𝕄) :=
  (Entails.of_eq (bigSep_univ_eq_bigSepL [(0, 0), (0, 1), (1, 0), (1, 1)] (by decide) (by decide) (fun a : Fin 2 × Fin 2 => pcAny c a.1 a.2 d)).symm).trans
    (parts_any c (stM d) (fun a : Fin 2 × Fin 2 => pcR a.1 a.2) pc_disjoint pc_cover)

theorem staged_split : iprop(heldAny c (stM false) Finset.univ ∗ heldAny c (stM true) Finset.univ)
    ⊢ (iprop(all4 (pcAny c 0) ∗ all4 (pcAny c 1)) : sProp 𝕄) := by
  unfold all4
  iintro ⟨H, G⟩
  ihave H := (pcs_split c false) $$ H
  ihave G := (pcs_split c true) $$ G
  icases H with ⟨H1, H2, H3, H4⟩
  icases G with ⟨G1, G2, G3, G4⟩
  isplitl [H1 H2 G1 G2]
  · isplitl [H1]; · iexact H1
    isplitl [G1]; · iexact G1
    isplitl [H2] <;> iassumption
  · isplitl [H3]; · iexact H3
    isplitl [G3]; · iexact G3
    isplitl [H4] <;> iassumption
theorem staged_join : iprop(all4 (pcAny c 0) ∗ all4 (pcAny c 1))
    ⊢ (iprop(heldAny c (stM false) Finset.univ ∗ heldAny c (stM true) Finset.univ) : sProp 𝕄) := by
  unfold all4
  iintro ⟨⟨H1, G1, H2, G2⟩, H3, G3, H4, G4⟩
  isplitl [H1 H2 H3 H4]
  · iapply (pcs_join c false)
    isplitl [H1]; · iexact H1
    isplitl [H2]; · iexact H2
    isplitl [H3] <;> iassumption
  · iapply (pcs_join c true)
    isplitl [G1]; · iexact G1
    isplitl [G2]; · iexact G2
    isplitl [G3] <;> iassumption

theorem handed_eq (d : Bool) : (handed d c : sProp 𝕄) = bigSep Finset.univ fun a : Fin 7 × Fin 2 => heldAny c (rvM d) (rvR a.1 a.2).set :=
  ((bigSep_univ_prod fun a : Fin 7 × Fin 2 => (heldAny c (rvM d) (rvR a.1 a.2).set : sProp 𝕄)).trans
    (bigSep_congr fun t _ => bigSep_univ_eq_bigSepL [0, 1] (by decide) (by decide) fun j => heldAny c (rvM d) (rvR t j).set)).symm
theorem handed_intro (d : Bool) : heldAny c (rvM d) Finset.univ ⊢ (handed d c : sProp 𝕄) := by
  rw [handed_eq]; exact any_parts c (rvM d) (fun a : Fin 7 × Fin 2 => rvR a.1 a.2) rv_disjoint rv_cover
theorem handed_whole (d : Bool) : handed d c ⊢ (heldAny c (rvM d) Finset.univ : sProp 𝕄) := by
  rw [handed_eq]; exact parts_any c (rvM d) (fun a : Fin 7 × Fin 2 => rvR a.1 a.2) rv_disjoint rv_cover

/-- What hop `t` left in a device's buffers. -/
abbrev landedAt (t : Fin 7) (j : Fin 2) (d : Bool) : sProp 𝕄 := held c (rvM d) (rvR t j).set fullShare (RV X d t.val c)

theorem landed_any (t : Fin 7) : all4 (landedAt X c t)
    ⊢ (iprop((heldAny c (rvM false) (rvR t 0).set ∗ heldAny c (rvM false) (rvR t 1).set)
      ∗ (heldAny c (rvM true) (rvR t 0).set ∗ heldAny c (rvM true) (rvR t 1).set)) : sProp 𝕄) := by
  unfold all4 landedAt
  iintro ⟨H1, G1, H2, G2⟩
  ihave H1 := (held_any c (rvM false)) $$ H1
  ihave H2 := (held_any c (rvM false)) $$ H2
  ihave G1 := (held_any c (rvM true)) $$ G1
  ihave G2 := (held_any c (rvM true)) $$ G2
  isplitl [H1 H2]
  · isplitl [H1] <;> iassumption
  · isplitl [G1] <;> iassumption
theorem landed_handed : (bigSep Finset.univ fun t : Fin 7 => all4 (landedAt X c t)) ⊢ (iprop(handed false c ∗ handed true c) : sProp 𝕄) := by
  unfold handed
  rw [← bigSep_sep']
  exact bigSep_mono fun t _ => landed_any X c t

variable (o : Memref sig .tc .vmem S2048x512 .bf16)

theorem result_split : heldAny c o Finset.univ ⊢ (all4 (fun j d => heldAny c o (outR d j).set) : sProp 𝕄) :=
  (any_parts c o (fun a : Bool × Fin 2 => outR a.1 a.2) out_disjoint out_cover).trans
    (Entails.of_eq (bigSep_univ_eq_bigSepL [(false, 0), (true, 0), (false, 1), (true, 1)] (by decide) (by decide) _))
theorem result_join (q : PosShare TreeShare) (Y : S2048x512.Idx → Elt F .bf16) :
    all4 (fun j d => held c o (outR d j).set q Y) ⊢ (held c o Finset.univ q Y : sProp 𝕄) :=
  (Entails.of_eq (bigSep_univ_eq_bigSepL [(false, 0), (true, 0), (false, 1), (true, 1)] (by decide) (by decide)
    (fun a : Bool × Fin 2 => held c o (outR a.1 a.2).set q Y)).symm).trans
    (parts_held c o (fun a : Bool × Fin 2 => outR a.1 a.2) out_disjoint out_cover)

/-! ## The fetches' slots -/

theorem ready_intro : iprop(fetchSems c ∗ src X c fullShare ∗ (heldAny c (xfM false) Finset.univ ∗ heldAny c (xfM true) Finset.univ))
    ⊢ (iprop(ready X c 0 ∗ ready X c 1) : sProp 𝕄) := by
  unfold fetchSems ready idle
  iintro ⟨HZ, HX, HF, HT⟩
  ihave HX := (src_split X c) $$ HX
  unfold all4
  ihave HF := (slots_split c false) $$ HF
  ihave HT := (slots_split c true) $$ HT
  icases HZ with ⟨Z1, Z2, Z3, Z4⟩
  icases HX with ⟨X1, X2, X3, X4⟩
  icases HF with ⟨F1, F2⟩
  icases HT with ⟨T1, T2⟩
  isplitl [Z1 Z2 X1 X2 F1 T1]
  · isplitl [Z1 X1 F1]
    · isplitl [Z1 X1]
      · isplitl [Z1] <;> iassumption
      iexact F1
    · isplitl [Z2 X2]
      · isplitl [Z2] <;> iassumption
      iexact T1
  · isplitl [Z3 X3 F2]
    · isplitl [Z3 X3]
      · isplitl [Z3] <;> iassumption
      iexact F2
    · isplitl [Z4 X4]
      · isplitl [Z4] <;> iassumption
      iexact T2
theorem ready_exit : iprop(ready X c 0 ∗ ready X c 1)
    ⊢ (iprop(fetchSems c ∗ src X c fullShare ∗ (heldAny c (xfM false) Finset.univ ∗ heldAny c (xfM true) Finset.univ)) : sProp 𝕄) := by
  unfold fetchSems ready idle
  iintro ⟨⟨⟨⟨Z1, X1⟩, F1⟩, ⟨Z2, X2⟩, T1⟩, ⟨⟨Z3, X3⟩, F2⟩, ⟨Z4, X4⟩, T2⟩
  isplitl [Z1 Z2 Z3 Z4]
  · unfold all4
    isplitl [Z1]; · iexact Z1
    isplitl [Z2]; · iexact Z2
    isplitl [Z3] <;> iassumption
  isplitl [X1 X2 X3 X4]
  · iapply (src_gather X c)
    unfold all4
    isplitl [X1]; · iexact X1
    isplitl [X2]; · iexact X2
    isplitl [X3] <;> iassumption
  isplitl [F1 F2]
  · iapply (slots_join c false); isplitl [F1] <;> iassumption
  · iapply (slots_join c true); isplitl [T1] <;> iassumption

/-! ## The cells -/

/-- A device's cells before their first rounds. -/
def posAll : sProp 𝕄 := bigSep Finset.univ fun x : Key => atPos ER (cellAt c x) 0 ∅ 0
/-- The credits of the launch. -/
def credAll : sProp 𝕄 := iprop(cred (tallyAt (cellAt c kBar) () 2)
    ∗ bigSep Finset.univ fun t : Fin 7 => all4 fun j d => cred (tallyAt (cellAt c (kRcv t (j, d))) () NB))

theorem free_intro (k : Fin 2) : iprop(env X K ∗ all4 (pcAny c k) ∗ all4 fun j d => atPos ER (cellAt c (kSnd k (j, d))) 0 ∅ 0)
    ⊢ (all4 (fun j d => free c k j d 0) : sProp 𝕄) := by
  unfold free all4
  iintro ⟨#He, ⟨H1, H2, H3, H4⟩, G1, G2, G3, G4⟩
  isplitl [H1 G1]
  · isplitl [H1]; · iexact H1
    isplitl [G1]; · iexact G1
    iapply (env_reached X K c (kSnd k (0, false))); iexact He
  isplitl [H2 G2]
  · isplitl [H2]; · iexact H2
    isplitl [G2]; · iexact G2
    iapply (env_reached X K c (kSnd k (0, true))); iexact He
  isplitl [H3 G3]
  · isplitl [H3]; · iexact H3
    isplitl [G3]; · iexact G3
    iapply (env_reached X K c (kSnd k (1, false))); iexact He
  isplitl [H4]; · iexact H4
  isplitl [G4]; · iexact G4
  iapply (env_reached X K c (kSnd k (1, true))); iexact He

theorem free_exit (k : Fin 2) (R : ℕ) (hR : R = rounds k) : all4 (fun j d => free c k j d R)
    ⊢ (iprop(all4 (pcAny c k) ∗ all4 fun j d => spent c (kSnd k (j, d))) : sProp 𝕄) := by
  subst hR
  rw [← all4_sep]
  refine all4_mono fun j d => ?_
  unfold free spent
  show iprop(heldAny c (stM d) (pcR k j).set ∗ atPos ER (cellAt c (kSnd k (j, d))) (rounds k) ∅ 0 ∗ reached ER (cellAt c (kSnd k (j, d))) (rounds k))
    ⊢ (iprop(pcAny c k j d ∗ atPos ER (cellAt c (kSnd k (j, d))) (rounds k) ∅ 0) : sProp 𝕄)
  iintro ⟨H1, H2, -⟩
  isplitl [H1] <;> iassumption

theorem kits_eq : (bigSep Finset.univ fun t : Fin 7 => all4 (recvKit c t) : sProp 𝕄)
    = iprop((bigSep Finset.univ fun t : Fin 7 => all4 fun j d => cred (tallyAt (cellAt c (kRcv t (j, d))) () NB))
      ∗ bigSep Finset.univ fun t : Fin 7 => all4 fun j d => atPos ER (cellAt c (kRcv t (j, d))) 0 ∅ 0) := by
  rw [← bigSep_sep']
  exact bigSep_congr fun t _ => all4_sep _ _
theorem done_eq : (bigSep Finset.univ fun t : Fin 7 => all4 (recvDone X c t) : sProp 𝕄)
    = iprop((bigSep Finset.univ fun t : Fin 7 => all4 (landedAt X c t))
      ∗ bigSep Finset.univ fun t : Fin 7 => all4 fun j d => spent c (kRcv t (j, d))) := by
  rw [← bigSep_sep']
  exact bigSep_congr fun t _ => all4_sep _ _

theorem close_one (x : Key) : iprop(env X K ∗ spent c x) ⊢ (|={Set.univ}=> semVal (cellAt c x) 0 : sProp 𝕄) := by
  unfold spent
  iintro ⟨He, Hp⟩
  iapply (cell_close ER (rd X) (κ := K (c, x)) (Set.mem_univ _) (fun h => h) (R := lastOf x) (duties_last X c x))
  isplitl [He]
  · iapply (env_inv X K c x) $$ He
  iexact Hp
/-- Every cell past its rounds closes, its semaphore at zero. -/
theorem close_all : iprop(env X K ∗ bigSep Finset.univ fun x : Key => spent c x)
    ⊢ (|={Set.univ}=> bigSep Finset.univ fun x : Key => semVal (cellAt c x) 0 : sProp 𝕄) :=
  (bigSep_with_persistent fun x _ => close_one X K c x).trans (bigSep_fupd _ _)

/-! ## The body's ends -/

theorem entry : iprop(env X K ∗ posAll c ∗ payToks c ∗ credAll c ∗ fetchSems c ∗ src X c fullShare ∗ scr c ∗ heldAny c o Finset.univ ∗ ow c allL)
    ⊢ (bodyIn X c o : sProp 𝕄) := by
  unfold posAll payToks credAll scr bodyIn barWait
  rw [by_key, kits_eq]
  iintro ⟨#He, ⟨PB, ⟨PS0, PS1⟩, PR⟩, ⟨TB, TS⟩, ⟨CB, CR⟩, HZ, HX, ⟨HF, HS, HVf, HVt⟩, Ho, HO⟩
  ihave HR := (ready_intro X c) $$ [HZ HX HF]
  · isplitl [HZ]; · iexact HZ
    isplitl [HX] <;> iassumption
  icases HR with ⟨R0, R1⟩
  isplitl [R0]; · iexact R0
  isplitl [R1]; · iexact R1
  isplitl [TB]; · iexact TB
  isplitl [HVf HVt]
  · isplitl [HVf]
    · iapply (handed_intro c false) $$ HVf
    · iapply (handed_intro c true) $$ HVt
  isplitl [CB PB]
  · isplitl [CB] <;> iassumption
  ihave HS := (staged_split c) $$ HS
  icases HS with ⟨S0, S1⟩
  isplitl [S0 PS0]
  · iapply (free_intro X K c 0)
    isplitr; · iexact He
    isplitl [S0] <;> iassumption
  isplitl [S1 PS1]
  · iapply (free_intro X K c 1)
    isplitr; · iexact He
    isplitl [S1] <;> iassumption
  isplitl [TS]; · iexact TS
  isplitl [CR PR]
  · isplitl [CR] <;> iassumption
  isplitl [Ho]
  · iapply (result_split c o) $$ Ho
  iexact HO

theorem leave : iprop(env X K ∗ bodyOut X c o)
    ⊢ (|={Set.univ}=> iprop((fetchSems c ∗ bigSep Finset.univ fun x : Key => semVal (cellAt c x) 0)
      ∗ src X c fullShare ∗ scr c ∗ held c o Finset.univ fullShare (OUT X c) ∗ ow c []) : sProp 𝕄) := by
  unfold bodyOut scr
  rw [done_eq]
  iintro ⟨#He, R0, R1, SB, F0, F1, ⟨HV, SR⟩, Ho, HO⟩
  ihave HR := (ready_exit X c) $$ [R0 R1]
  · isplitl [R0] <;> iassumption
  icases HR with ⟨HZ, HX, HF⟩
  ihave F0 := (free_exit c 0 4 rfl) $$ F0
  ihave F1 := (free_exit c 1 3 rfl) $$ F1
  icases F0 with ⟨P0, S0⟩
  icases F1 with ⟨P1, S1⟩
  ihave HS := (Entails.of_eq (by_key fun x => (spent c x : sProp 𝕄)).symm) $$ [SB S0 S1 SR]
  · isplitl [SB]; · iexact SB
    isplitl [S0 S1]
    · isplitl [S0] <;> iassumption
    iexact SR
  imod (close_all X K c) $$ [HS] with HC
  · isplitr; · iexact He
    iexact HS
  imodintro
  isplitl [HZ HC]
  · isplitl [HZ] <;> iassumption
  isplitl [HX]; · iexact HX
  isplitl [HF P0 P1 HV]
  · isplitl [HF]; · iexact HF
    isplitl [P0 P1]
    · iapply (staged_join c)
      isplitl [P0] <;> iassumption
    ihave HV := (landed_handed X c) $$ HV
    icases HV with ⟨V0, V1⟩
    isplitl [V0]
    · iapply (handed_whole c false) $$ V0
    · iapply (handed_whole c true) $$ V1
  isplitl [Ho]
  · iapply (result_join c o) $$ Ho
  iexact HO

end Cert.KernelIdeal.Sum

end
-- ==== Proof.BodyText.lean ====
module

public import proofs.«01_k».proof.Proof.Program

@[expose] public section

set_option maxRecDepth 65536

noncomputable section

namespace Cert.KernelIdeal.Sum

open Idealize.ShloMosaic Idealize.SL.Sem
open Cert.KernelIdeal Cert.KernelIdeal.Gen

variable {F : FTy → Type} [FloatOps F]

/-- Two programs agree if their first operations do and, at every response, their rests. -/
theorem lift_congr {E : Type → Type} {R A : Type} {e : E R} {q : Prog E R} {k k' : R → Prog E A}
    (he : Prog.lift e = q) (hk : ∀ x, k x = k' x) : (Prog.lift e >>= k) = (q >>= k') := by
  subst he; exact congrArg _ (funext hk)

/-- As `lift_congr`, for two programs `p` and `q` printed in one piece each. -/
theorem prog_congr {E : Type → Type} {R A : Type} {p q : Prog E R} {k k' : R → Prog E A}
    (he : p = q) (hk : ∀ x, k x = k' x) : (p >>= k) = (q >>= k') := by
  subst he; exact congrArg _ (funext hk)

/-- As `lift_congr`, where the second program ends. -/
theorem lift_last {E : Type → Type} {e : E PUnit} {q : Prog E PUnit} (he : Prog.lift e = q) :
    (Prog.lift e >>= fun _ => pure ⟨⟩) = q := by
  subst he; rfl

set_option maxHeartbeats 400000 in
/-- The printed body is the named steps in order. -/
theorem body_eq (o : Memref sig .tc .vmem S2048x512 .bf16) (ho : o.IsWhole) :
    (cc0_body (Memref.whole main_arg0) (Memref.isWhole_whole _) o ho
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 : PG F)
    = Prog.lift .deviceId >>= fun c => bodyP c o ho := by
  rw [cc0_body_eq_skeleton]
  simp only [cc0_body_skel, k0_part50_eq_skeleton, k0_part50_skel, bind_assoc, pure_bind]
  simp only [bodyP, startP, fetchesP,
    hopsP, hopP, putP, firstP, midP, sentsP, endP, outP, bind_assoc, pure_bind]
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, bind_assoc, pure_bind]
  repeat (first
    | ((with_reducible refine lift_congr ?_ fun _ => ?_); focus rfl)
    | ((with_reducible refine prog_congr (p := semSignalWord _ _ _) ?_ fun _ => ?_); focus rfl)
    | ((with_reducible refine prog_congr (p := semWaitWord _ _) ?_ fun _ => ?_); focus rfl))
  simp only [k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, bind_assoc, pure_bind]
  repeat (first
    | ((with_reducible refine lift_congr ?_ fun _ => ?_); focus rfl)
    | ((with_reducible refine prog_congr (p := semSignalWord _ _ _) ?_ fun _ => ?_); focus rfl)
    | ((with_reducible refine prog_congr (p := semWaitWord _ _) ?_ fun _ => ?_); focus rfl))
  simp only [k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, bind_assoc, pure_bind]
  repeat (first
    | ((with_reducible refine lift_congr ?_ fun _ => ?_); focus rfl)
    | ((with_reducible refine prog_congr (p := semSignalWord _ _ _) ?_ fun _ => ?_); focus rfl)
    | ((with_reducible refine prog_congr (p := semWaitWord _ _) ?_ fun _ => ?_); focus rfl))
  simp only [k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, bind_assoc, pure_bind]
  repeat (first
    | ((with_reducible refine lift_congr ?_ fun _ => ?_); focus rfl)
    | ((with_reducible refine prog_congr (p := semSignalWord _ _ _) ?_ fun _ => ?_); focus rfl)
    | ((with_reducible refine prog_congr (p := semWaitWord _ _) ?_ fun _ => ?_); focus rfl))
  simp only [k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, bind_assoc, pure_bind]
  repeat (first
    | ((with_reducible refine lift_congr ?_ fun _ => ?_); focus rfl)
    | ((with_reducible refine prog_congr (p := semSignalWord _ _ _) ?_ fun _ => ?_); focus rfl)
    | ((with_reducible refine prog_congr (p := semWaitWord _ _) ?_ fun _ => ?_); focus rfl))
  simp only [k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, bind_assoc, pure_bind]
  repeat (first
    | ((with_reducible refine lift_congr ?_ fun _ => ?_); focus rfl)
    | ((with_reducible refine prog_congr (p := semSignalWord _ _ _) ?_ fun _ => ?_); focus rfl)
    | ((with_reducible refine prog_congr (p := semWaitWord _ _) ?_ fun _ => ?_); focus rfl))
  simp only [k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, bind_assoc, pure_bind]
  repeat (first
    | ((with_reducible refine lift_congr ?_ fun _ => ?_); focus rfl)
    | ((with_reducible refine prog_congr (p := semSignalWord _ _ _) ?_ fun _ => ?_); focus rfl)
    | ((with_reducible refine prog_congr (p := semWaitWord _ _) ?_ fun _ => ?_); focus rfl))
  exact lift_last rfl

end Cert.KernelIdeal.Sum

end
-- ==== Proof.Launch.lean ====
/-
  The launch: what it deals each device, and what each device brings to its body and back.
-/
module

public import proofs.«01_k».proof.Proof.Ends
public import proofs.«01_k».proof.Proof.BodyText

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The argument, device by device. -/
abbrev argOf (c : Dev nD) : S1x2048x4096.Idx → F .f32 := m ((c : Thread nD τ).loc main_arg0)

/-! ## The ghost state -/

/-- The launch's element: the pipeline's rounds, the ring's, and no counter. -/
def u₀ : UU := (initOf (Pipeline.cells cfgs cellOf_inj) (Pipeline.launchToks cfgs cellOf_inj), (initOf ringCells ringToks, 1))

/-- What the element deals a device, -/
def G (c : Dev nD) : sProp 𝕄 :=
  iprop((bigSep Finset.univ fun x : Key => roundState ER (rd (argOf m)) (cellAt c x) 0)
    ∗ (posAll c ∗ bigSep Finset.univ fun x : Key => reached ER (cellAt c x) 0) ∗ toks c)
/-- and what it holds once the cells' invariants are in place. -/
def G' (c : Dev nD) : sProp 𝕄 := iprop((∃ K, recs (argOf m) K ∗ posAll c ∗ payToks c) ∗ fetchSems c)

theorem fund_ring : BI.own (ER (initOf ringCells ringToks)) ⊢ (|==> bigSep Finset.univ (G m) : sProp 𝕄) := by
  have hX (Φ : GSem nD τ sig → sProp (MT nD τ sig Unit (Elt F) ℕ UU ℕ)) :
      bigSep ringCells Φ = bigSep Finset.univ fun c : Dev nD => bigSep Finset.univ fun x : Key => Φ (cellAt c x) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (rd (argOf m)) ringCells ringToks) $$ HX with ⟨Hst, Hr, Hat, Htok⟩
  imodintro
  ihave Hst := (Entails.of_eq (hX fun g => roundState ER (rd (argOf m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posAll; simp only [bigSep_sep']
  isplitl [Hst]; · iexact Hst
  isplitl [Hat Hr]
  · isplitl [Hat] <;> iassumption
  iexact Htok

/-- A device's cells put under invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun x : Key => iprop(∃ κ : ℕ, cellInv ER (rd (argOf m)) κ (cellAt c x)))
          ∗ (bigSep Finset.univ fun x : Key => reached ER (cellAt c x) 0) ∗ toks c ∗ posAll c ∗ fetchSems c) : sProp 𝕄) := by
  unfold G
  iintro ⟨Hos, Hus, Hst, ⟨Hat, Hr⟩, Htok⟩
  ihave Hv := (Entails.of_eq (sems_eq (F := F) c)) $$ [Hos Hus]
  · isplitl [Hus] <;> iassumption
  icases Hv with ⟨Hf, Hv⟩
  imod (show iprop((bigSep Finset.univ fun x : Key => semVal (cellAt c x) 0) ∗ bigSep Finset.univ fun x : Key => roundState ER (rd (argOf m)) (cellAt c x) 0)
      ⊢ (|={Set.univ}=> bigSep Finset.univ fun x : Key => iprop(∃ κ : ℕ, cellInv ER (rd (argOf m)) κ (cellAt c x)) : sProp 𝕄) from by
        rw [← bigSep_sep']
        exact (bigSep_mono fun x _ => (Rounds.body_intro ER (rd (argOf m)) (cellAt c x)).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat] <;> iassumption

theorem ghost_intro (K : Dev nD × Key → ℕ) (c : Dev nD) :
    iprop(recs (argOf m) K ∗ payToks c ∗ posAll c ∗ fetchSems c) ⊢ (G' m c : sProp 𝕄) := by
  unfold G'
  iintro ⟨HI, Ht, Ha, Hf⟩
  isplitr [Hf]
  · iexists K
    isplitl [HI]; · iexact HI
    isplitl [Ha] <;> iassumption
  · iexact Hf

/-- The invariants to every device, the tokens around the ring. -/
theorem regroup :
    (bigSep Finset.univ fun c : Dev nD => iprop((bigSep Finset.univ fun x : Key => iprop(∃ κ : ℕ, cellInv ER (rd (argOf m)) κ (cellAt c x)))
          ∗ (bigSep Finset.univ fun x : Key => reached ER (cellAt c x) 0) ∗ toks c ∗ posAll c ∗ fetchSems c) : sProp 𝕄)
      ⊢ bigSep Finset.univ (G' m) := by
  simp only [bigSep_sep']
  rw [← bigSep_univ_prod (fun p : Dev nD × Key => (iprop(∃ κ : ℕ, cellInv ER (rd (argOf m)) κ (cellAt p.1 p.2)) : sProp 𝕄)),
    ← bigSep_univ_prod (fun p : Dev nD × Key => (reached ER (cellAt p.1 p.2) 0 : sProp 𝕄))]
  iintro ⟨HI, #HR, Ht, Ha, Hf⟩
  ihave HK := (BI.bigSep_exists_pi Finset.univ (fun (p : Dev nD × Key) (κ : ℕ) => (cellInv ER (rd (argOf m)) κ (cellAt p.1 p.2) : sProp 𝕄))) $$ HI
  icases HK with ⟨%K, #HI⟩
  ihave Ht := (toks_around (F := F)) $$ Ht
  iapply (bigSep_with_persistent (R := recs (argOf m) K) fun c _ => ghost_intro m K c)
  isplitr
  · unfold recs; rw [bigSep_sep']
    isplitl; · iexact HI
    iexact HR
  · simp only [bigSep_sep']
    isplitl [Ht]; · iexact Ht
    isplitl [Ha] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The body's obligation -/

variable (c : Dev nD)

/-- What a device brings to the region, beside its own buffers, -/
def start : sProp 𝕄 :=
  iprop((∃ K, env (argOf m) K ∗ posAll c ∗ payToks c) ∗ credAll c ∗ fetchSems c ∗ src (argOf m) c fullShare)
def Φ₀ : sProp 𝕄 := iprop(start m c ∗ scr c)
/-- and takes from it. -/
def Φ₁ : sProp 𝕄 :=
  iprop((fetchSems c ∗ bigSep Finset.univ fun x : Key => semVal (cellAt c x) 0) ∗ src (argOf m) c fullShare ∗ scr c)

def dats (_ : Fin 1) (c : Dev nD) : Dat τ (Elt F) Unit ℕ UU ℕ cfg0 c where
  A w := m ((cfg0.win w).arr.view.loc (c : Thread nD τ))
  after w _ := match w with
    | ⟨0, _⟩ => OUT (argOf m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (w : Fin cfg0.W) : (dats m 0 c).share w = fullShare := by unfold Dat.share; split <;> rfl

/-- The staging buffer of the result. -/
abbrev stgM : Memref sig .tc .vmem S2048x512 .bf16 := Memref.whole cc0_stg0_0

theorem owns_stg (Y : S2048x512.Idx → Elt F .bf16) :
    (owns (Ix := Unit) (Name := ℕ) (U := UU) (Lvl := ℕ) (c : Thread nD τ) stgM fullShare Y : sProp 𝕄)
      = iprop(((c : Thread nD τ).loc cc0_stg0_0) ↦{fullShare} Y) := by
  rw [owns_whole]

theorem body_start (Kt : PUnit → sProp (MT nD τ sig Unit (Elt F) ℕ UU ℕ)) :
    iprop(Φ₀ m c ∗ heldAny c stgM Finset.univ ∗ ow c allL
        ∗ ((Φ₁ m c ∗ held c stgM Finset.univ fullShare (OUT (argOf m) c) ∗ ow c []) -∗ Kt ⟨⟩))
      ⊢ wp frame (wpE (defs₀ (F := F)) 𝒱₀ (c : Thread nD τ) none) Set.univ (bodyAt0 t0_0) Kt := by
  show _ ⊢ wp frame (wpE (defs₀ (F := F)) 𝒱₀ (c : Thread nD τ) none) Set.univ
    (cc0_body (Memref.whole main_arg0) (Memref.isWhole_whole _) stgM (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) cc0_scratch6 cc0_scratch7 cc0_scratch8 cc0_scratch9 cc0_scratch10 cc0_scratch11) Kt
  rw [body_eq stgM (Memref.isWhole_whole _)]
  simp only [Prog.lift, Prog.bind_op, Prog.bind_ret, wp_deviceId]
  unfold Φ₀ start
  iintro ⟨⟨⟨⟨%K, #He, HP, HT⟩, HC, HZ, HX⟩, HS⟩, Ho, HO, Hk⟩
  iapply wp_fupd
  iapply (tri_body (X := argOf m) (K := K) (c := c) stgM (Memref.isWhole_whole _) _)
  isplitr; · iexact He
  isplitl [HP HT HC HZ HX HS Ho HO]
  · iapply (entry (argOf m) K c stgM)
    isplitr; · iexact He
    isplitl [HP]; · iexact HP
    isplitl [HT]; · iexact HT
    isplitl [HC]; · iexact HC
    isplitl [HZ]; · iexact HZ
    isplitl [HX]; · iexact HX
    isplitl [HS]; · iexact HS
    isplitl [Ho] <;> iassumption
  iintro HQ
  imod (leave (argOf m) K c stgM) $$ [HQ] with ⟨HZ, HX, HS, Ho, HO⟩
  · isplitr; · iexact He
    iexact HQ
  imodintro
  iapply Hk
  unfold Φ₁
  isplitl [HZ HX HS]
  · isplitl [HZ]; · iexact HZ
    isplitl [HX] <;> iassumption
  isplitl [Ho] <;> iassumption

set_option maxRecDepth 100000 in
/-- The region's body does what the launch asks of it. -/
theorem body_obligation : BodyObligation (dats (F := F) m 0 c) (defs₀ (F := F)) 𝒱₀ () Set.univ := fun t => by
  rw [fin_N0 t]
  rw [bigSep_W0, bigSep_W0]
  show iprop(Φ₀ m c ∗ (dats m 0 c).owesAt () (t0_0 : Fin cfg0.N).castSucc ∗ (∃ d, owns (c : Thread nD τ) stgM fullShare ((dats m 0 c).before (0 : Fin 1) t0_0 d)))
    ⊢ wp frame (wpE (defs₀ (F := F)) 𝒱₀ c none) Set.univ (bodyAt0 t0_0)
      (fun _ => iprop(Φ₁ m c ∗ (dats m 0 c).owesAt () (t0_0 : Fin cfg0.N).succ ∗ owns (c : Thread nD τ) stgM fullShare (OUT (argOf m) c)))
  unfold Dat.owesAt Pipeline.owesWithin
  iintro ⟨HΦ, ⟨%W, %hW, HO⟩, %d, Ho⟩
  iapply (body_start m c fun _ => iprop(Φ₁ m c ∗ _ ∗ owns (c : Thread nD τ) stgM fullShare (OUT (argOf m) c)))
  isplitl [HΦ]; · iexact HΦ
  isplitl [Ho]
  · iapply (held_any c stgM)
    iapply (whole_held c cc0_stg0_0 fullShare _)
    iapply (Entails.of_eq (owns_stg c _)) $$ Ho
  isplitl [HO]
  · unfold ow; iexists W; iexact HO
  unfold ow
  iintro ⟨HΦ, Ho, %W', HO⟩
  isplitl [HΦ]; · iexact HΦ
  isplitl [HO]
  · iexists W'
    isplitr; · ipureintro; exact fun _ _ => Or.inl trivial
    iexact HO
  iapply (Entails.of_eq (owns_stg c _).symm)
  iapply (held_whole c cc0_stg0_0 fullShare _) $$ Ho

end Cert.KernelIdeal.Sum

end
-- ==== Proof.Run.lean ====
/-
  The run of the kernel: what every final state holds.
-/
module

public import proofs.«01_k».proof.Proof.Launch
public import Idealize.ShloMosaic.Lib.Pipeline.CollectiveSegs

@[expose] public section

set_option maxRecDepth 16384

noncomputable section

namespace Cert.KernelIdeal.Sum

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Into the region and out of it -/

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, unscopedRest0_eq]
  unfold start G' credAll env
  iintro ⟨HX, Hlev, Hcr, -, ⟨%K, HR, Ha, Ht⟩, Hf⟩
  ihave Hc := (creds (F := F) c) $$ Hcr
  imodintro
  isplitl
  · isplitl [HR Ha Ht Hlev]
    · iexists K
      isplitl [HR Hlev]
      · isplitl [HR] <;> iassumption
      isplitl [Ha] <;> iassumption
    isplitl [Hc]; · iexact Hc
    isplitl [Hf]; · iexact Hf
    unfold src
    iapply (whole_held c main_arg0 fullShare (argOf m c)) $$ HX
  · iempintro

/-- A device's own buffers are the launch's scratch buffers. -/
theorem scr_eq : (Pipeline.scopedRest (Ix := Unit) (Name := ℕ) (U := UU) (Lvl := ℕ) (Val := Elt F) spec0 c : sProp 𝕄) ⊣⊢ scr c := by
  rw [scopedRest0_eq]
  unfold scr
  constructor
  · iintro ⟨H0, H1, H2, H3, H4, H5⟩
    ihave H0 := (Entails.of_eq (any_whole (F := F) c cc0_scratch0).symm) $$ H0
    ihave H1 := (Entails.of_eq (any_whole (F := F) c cc0_scratch1).symm) $$ H1
    ihave H2 := (Entails.of_eq (any_whole (F := F) c cc0_scratch2).symm) $$ H2
    ihave H3 := (Entails.of_eq (any_whole (F := F) c cc0_scratch3).symm) $$ H3
    ihave H4 := (Entails.of_eq (any_whole (F := F) c cc0_scratch4).symm) $$ H4
    ihave H5 := (Entails.of_eq (any_whole (F := F) c cc0_scratch5).symm) $$ H5
    isplitl [H0 H1]
    · isplitl [H0]; · iexact H0
      iexact H1
    isplitl [H2 H3]
    · isplitl [H2]; · iexact H2
      iexact H3
    isplitl [H4]; · iexact H4
    iexact H5
  · iintro ⟨⟨H0, H1⟩, ⟨H2, H3⟩, H4, H5⟩
    isplitl [H0]
    · iapply (show (heldAny c (xfM false) Finset.univ : sProp 𝕄) ⊢ _ from Entails.of_eq (any_whole (F := F) c cc0_scratch0)) $$ H0
    isplitl [H1]
    · iapply (show (heldAny c (xfM true) Finset.univ : sProp 𝕄) ⊢ _ from Entails.of_eq (any_whole (F := F) c cc0_scratch1)) $$ H1
    isplitl [H2]
    · iapply (show (heldAny c (stM false) Finset.univ : sProp 𝕄) ⊢ _ from Entails.of_eq (any_whole (F := F) c cc0_scratch2)) $$ H2
    isplitl [H3]
    · iapply (show (heldAny c (stM true) Finset.univ : sProp 𝕄) ⊢ _ from Entails.of_eq (any_whole (F := F) c cc0_scratch3)) $$ H3
    isplitl [H4]
    · iapply (show (heldAny c (rvM false) Finset.univ : sProp 𝕄) ⊢ _ from Entails.of_eq (any_whole (F := F) c cc0_scratch4)) $$ H4
    iapply (show (heldAny c (rvM true) Finset.univ : sProp 𝕄) ⊢ _ from Entails.of_eq (any_whole (F := F) c cc0_scratch5)) $$ H5

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_eq (F := F) c).1 $$ Hr

theorem phi1_exit : (dats m 0 c).Φ (Fin.last cfg0.N)
    ⊢ iprop((unscopedSems0 c ∗ src (argOf m) c fullShare) ∗ Pipeline.ownSems0 osem c ∗ Pipeline.scopedRest cfg0.spec c) := by
  rw [show (dats m 0 c).Φ (Fin.last cfg0.N) = Φ₁ m c from rfl]
  unfold Φ₁
  iintro ⟨HZ, HX, HS⟩
  ihave HZ := (Entails.of_eq (sems_eq (F := F) c).symm) $$ HZ
  icases HZ with ⟨Hu, Ho⟩
  isplitl [Hu HX]
  · isplitl [Hu] <;> iassumption
  isplitl [Ho]; · iexact Ho
  iapply (scr_eq (F := F) c).2 $$ HS

theorem waits : (levAts L lv : sProp 𝕄) ⊢ Pipeline.cellsWaits cfgs (dats m) () 0 c :=
  Pipeline.cellsWaits_intro cfgs (dats m) () 0 c fun w s t => by
    have h0 : level (SemLoc.dma ((cfg0.win w).sem s)) = 0 := by fin_cases w; fin_cases s; decide
    rcases t with ⟨_ | _, ht⟩
    · exact mayWait c _ allL fun x _ => by rw [h0]; rcases x with d | ⟨t, x⟩ <;> simp only [levelOf] <;> omega
    · exact mayWait c _ [] fun x hx => absurd hx List.not_mem_nil

/-! ## The result's array -/

theorem result_eq : (dats m 0 c).arrAt (0 : Fin cfg0.W) cfg0.N = OUT (argOf m) c := by
  refine (dats m 0 c).arrAt_eq_of_cover (0 : Fin cfg0.W) (OUT (argOf m) c) (fun t _ => ?_) (fun i => ⟨t0_0, flush0_0 _, ?_⟩)
  · obtain rfl := fin_N0 t
    unfold Dat.flushed
    rw [show (dats m 0 c).after (0 : Fin cfg0.W) t0_0 = OUT (argOf m) c from rfl]
    funext y
    rw [View.read_apply]
    have e : ((cfg0.win (0 : Fin cfg0.W)).blk t0_0).view.emb y = y := by
      funext a
      fin_cases a <;> exact Fin.ext (by show 0 + 1 * _ = _; rw [Nat.zero_add, Nat.one_mul])
    rw [e]; rfl
  · show i ∈ ((View.whole main_v1).slice (win0_0.rect t0_0)).set
    rw [View.set_slice_whole, Rect.mem_set_unit]
    intro a
    fin_cases a
    · exact ⟨Nat.zero_le _, (i 0).isLt⟩
    · exact ⟨Nat.zero_le _, (i 1).isLt⟩

/-! ## The run -/

/-- What every final state holds: on each device the result's array at `OUT`, the argument's array as it was; every
    semaphore at zero. -/
def Final (r : PUnit × MemSt nD τ sig (Elt F)) : Prop :=
  (∀ c : Dev nD, r.2.mem ((c : Thread nD τ).loc main_v1) = OUT (argOf m) c
    ∧ r.2.mem ((c : Thread nD τ).loc main_arg0) = m ((c : Thread nD τ).loc main_arg0)) ∧ r.2.sem = fun _ => 0

theorem read_arg (s' : Phys nD τ sig (Elt F)) :
    iprop((unscopedSems0 c ∗ src (argOf m) c fullShare) ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg0) = m ((c : Thread nD τ).loc main_arg0)⌝ ∗ SI s') : sProp 𝕄) := by
  unfold src
  iintro ⟨⟨Hu, HX⟩, -, HSI⟩
  ihave HX := (held_whole c main_arg0 fullShare (argOf m c)) $$ HX
  icombine HSI HX gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ h⟩
  iexact HSI

set_option maxRecDepth 100000 in
/-- From any memory, every semaphore at zero, the eight devices' program ends, and ends so. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0)
    (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (show BI.own (embR (initOf ringCells ringToks, 1)) ⊢ (BI.own (ER (initOf ringCells ringToks)) : sProp 𝕄) from .rfl) $$ HX
      imod (fund_ring m) $$ HX with HG
      imodintro
      isplitl [HP] <;> iassumption)
    (hglob := glob m)
    (hA := fun _ _ => rfl) (hpf := fun _ k => k.elim0)
    (X := start m) (Y := fun c => iprop(unscopedSems0 c ∗ src (argOf m) c fullShare)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0))
    (hY := read_arg m)
    (hQ := fun _ h hs => ⟨fun c => ⟨((h c).1 (0 : Fin cfg0.W)).trans (result_eq m c), (h c).2.2.2⟩, sem_eq_zero hs fun c => (h c).2.2.1⟩)

end Cert.KernelIdeal.Sum

end
-- ==== Proof.Total.lean ====
/-
  The result's elements over the extended reals: each is the sum of the eight devices' elements at its place.
-/
module

public import proofs.«01_k».proof.Proof.Contents
public import Idealize.ShloMosaic.Lib.ValueIdx

@[expose] public section

set_option maxRecDepth 16384

noncomputable section

namespace Cert.KernelIdeal.Sum

open Idealize.ShloMosaic
open Cert.KernelIdeal Cert.KernelIdeal.Gen

/-- The device `k` places behind `c` in direction `d`. -/
def back (d : Bool) : ℕ → Dev nD → Dev nD
  | 0, c => c
  | k + 1, c => back d k (prev d c)

/-- The place in a device's array of row `i` and of lane `l` of column block `c`. -/
def place (c : Dev nD) (i : Fin 2048) (l : Fin 512) : S1x2048x4096.Idx := fun a =>
  ⟨(![0, i.val, 512 * c.val + l.val] : Fin 3 → ℕ) a, by
    have hi := i.isLt; have hl := l.isLt; have hc : c.val < 8 := c.isLt
    fin_cases a
    · exact (by decide : 0 < 1)
    · exact hi
    · show 512 * c.val + l.val < 4096
      omega⟩

/-- What the device `7 - n` places behind `c` fetches `n`-th lies in column block `c`, in the direction's half of the rows. -/
theorem src_back : ∀ (d : Bool) (c : Dev nD) (n : Fin 8) (a : Fin 3),
    srcOff d (back d (7 - n.val) c) n a = (![0, 1024 * cond d 1 0, 512 * c.val] : Fin 3 → ℕ) a := by
  decide +kernel

/-- The eight devices at the eight distances behind `c` are all different. -/
theorem back_inj : ∀ (d : Bool) (c : Dev nD) (n k : Fin 8), back d (7 - n.val) c = back d (7 - k.val) c → n = k := by
  decide +kernel

/-- A sum over the distances behind `c` is the sum over the devices. -/
theorem sum_back {M : Type} [AddCommMonoid M] (d : Bool) (c : Dev nD) (f : Dev nD → M) :
    ∑ n : Fin 8, f (back d (7 - n.val) c) = ∑ e : Dev nD, f e :=
  Function.Bijective.sum_comp (e := fun n : Fin 8 => (back d (7 - n.val) c : Fin 8))
    (Finite.injective_iff_bijective.mp fun n k h => back_inj d c n k h) f

variable (X : Dev nD → S1x2048x4096.Idx → Ideal .f32)

/-- A direction's total is the sum of what the devices behind fetch. -/
theorem total_eq_sum (d : Bool) (c : Dev nD) (r : Fin 1024) (l : Fin 512) :
    (total X d c r l : EReal) = ∑ n : Fin 8, (blk X d n (back d (7 - n.val) c) r l : EReal) := by
  rw [Fin.sum_univ_eight]
  rfl

/-- What the device `7 - n` places behind `c` fetches `n`-th, element by element. -/
theorem blk_back (d : Bool) (c : Dev nD) (n : Fin 8) (r : Fin 1024) (l : Fin 512) (i : Fin 2048)
    (hi : i.val = 1024 * cond d 1 0 + r.val) :
    blk X d n (back d (7 - n.val) c) r l = X (back d (7 - n.val) c) (place c i l) := by
  unfold blk
  congr 1
  funext a
  apply Fin.ext
  show srcOff d (back d (7 - n.val) c) n a + 1 * (blkIx r l a).val = (place c i l a).val
  rw [src_back]
  fin_cases a
  · rfl
  · show 1024 * cond d 1 0 + 1 * r.val = i.val
    omega
  · show 512 * c.val + 1 * l.val = 512 * c.val + l.val
    omega

/-- The result on device `c`: at each row and lane, the sum over the devices of their arrays' elements of that row, at
    that lane of column block `c`. -/
theorem OUT_eq_sum (c : Dev nD) (i : S2048x512.Idx) :
    (OUT X c i : EReal) = ∑ e : Dev nD, (X e (place c (i 0) (i 1)) : EReal) := by
  refine (total_eq_sum X (decide (1024 ≤ (i 0).val)) c _ (i 1)).trans ?_
  refine Eq.trans ?_ (sum_back (decide (1024 ≤ (i 0).val)) c fun e => (X e (place c (i 0) (i 1)) : EReal))
  refine Finset.sum_congr rfl fun n _ => blk_back X _ c n _ _ (i 0) ?_
  have h : (i 0).val < 2048 := (i 0).isLt
  by_cases hd : 1024 ≤ (i 0).val
  · rw [decide_eq_true hd]; show (i 0).val = 1024 * 1 + (i 0).val % 1024; omega
  · rw [decide_eq_false hd]; show (i 0).val = 1024 * 0 + (i 0).val % 1024; omega

end Cert.KernelIdeal.Sum

end
-- ==== Proof.Value.lean ====
/-
  The value claim: each device's result is its block of columns of the reference's sum.
-/
module

public import proofs.«01_k».proof.Defs
public import proofs.«01_k».proof.Proof.Run
public import proofs.«01_k».proof.Proof.Total
public import proofs.«01_k».proof.Proof.Gen.ReferenceIdeal.Run
public import Idealize.ShloMosaic.Lib.IdealHost
public import Idealize.ShloMosaic.Lib.Pointwise.Reduce

@[expose] public section

set_option maxRecDepth 16384

noncomputable section

namespace Cert.KernelIdeal.Sum

open Idealize.ShloMosaic Idealize.SL.Sem

/-- The reference's result of a whole argument `x`. -/
def refOut (x : Cert.ReferenceIdeal.S8x2048x4096.Idx → Ideal .f32) : Cert.ReferenceIdeal.S2048x4096.Idx → Ideal .bf16 :=
  truncf .bf16 (Host.reduceAdd x (constant Cert.ReferenceIdeal.S_ .f32 0x00000000#32)
    Cert.ReferenceIdeal.Facts₀.reducesTo_S8x2048x4096_S2048x4096_d0 Cert.ReferenceIdeal.Facts₀.h_S_)
    Cert.ReferenceIdeal.Facts₀.bitsLt_bf16_f32

/-- The reference's result is the sum over the first axis. -/
theorem refOut_apply (x : Cert.ReferenceIdeal.S8x2048x4096.Idx → Ideal .f32) (j : Cert.ReferenceIdeal.S2048x4096.Idx) :
    (refOut x j : EReal) = ∑ k : Fin 8, (x (ValueIdx.ix3 k (j 0) (j 1)) : EReal) := by
  unfold refOut
  rw [ValueIdx.truncf_apply, ValueIdx.hostReduceAdd_apply, Ideal.hostReduceAdd_r3_a0, ValueIdx.constant_apply,
    Ideal.ofBits_zero_f32, zero_add]
  rfl

/-- From devices holding the blocks of a whole argument, the kernel's result is a block of the reference's. -/
theorem OUT_eq_block (X : Dev Cert.KernelIdeal.nD → Cert.KernelIdeal.S1x2048x4096.Idx → Ideal .f32)
    (x : Cert.ReferenceIdeal.S8x2048x4096.Idx → Ideal .f32)
    (hX : ∀ c, X c = Layout.block ⟨3, ![1, 2048, 4096]⟩ ⟨3, ![8, 2048, 4096]⟩ 0 8 c x) (c : Dev Cert.KernelIdeal.nD) :
    OUT X c = Layout.block ⟨2, ![2048, 512]⟩ ⟨2, ![2048, 4096]⟩ 1 8 c (refOut x) := by
  funext i
  refine (OUT_eq_sum X c i).trans ?_
  rw [Layout.block_apply]
  refine Eq.trans ?_ (refOut_apply x _).symm
  refine Finset.sum_congr rfl fun e _ => ?_
  rw [hX e, Layout.block_apply]
  congr 1
  funext a
  apply Fin.ext
  fin_cases a
  · show e.val * 1 + 0 = e.val
    omega
  · rfl
  · show 512 * c.val + (i 1).val = c.val * 512 + (i 1).val
    omega

/-- The kernel's exact program and the reference both run, and each device ends with its block of the reference's result. -/
theorem value : Cert.algebraic_KernelIdeal_ReferenceIdeal := fun m g m' g' _ hm =>
  ⟨refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).1.trans (OUT_eq_block (argOf m) _ hm c), (h.1 c).2⟩) (run_main (F := Ideal) m g),
    (θ_run Cert.ReferenceIdeal.defs _ _).mono (fun _ h => h 0) (Cert.ReferenceIdeal.Value.run (F := Ideal) m' g')⟩

end Cert.KernelIdeal.Sum

end
-- ==== Proof.Words.lean ====
/-
  The program read at machine words is the idealized one's text: the same run is both programs'.
-/
module

public import proofs.«01_k».proof.Defs
public import proofs.«01_k».proof.Proof.Gen.Kernel
public import proofs.«01_k».proof.Proof.Run

@[expose] public section

set_option maxRecDepth 100000

noncomputable section

namespace Cert.KernelIdeal.Sum

open Idealize.ShloMosaic Idealize.SL.Sem

/-- The two programs' kernel bodies are one. -/
theorem bodies_eq : Cert.Kernel.defs₀ (F := Bits) = Cert.KernelIdeal.defs₀ (F := Bits) := by
  unfold Cert.Kernel.defs₀ Cert.KernelIdeal.defs₀
  refine congrArg (Defs.onTc (Λ := Cert.Kernel.Λ₀)) ?_
  funext l p
  fin_cases l
  rfl

/-- The two programs' tables of bodies are one. -/
theorem tables_eq : Cert.Kernel.defs (F := Bits) = Cert.KernelIdeal.defs (F := Bits) :=
  congrArg (Pipeline.defs Cert.Kernel.pcfgs) bodies_eq

/-- The kernel, on machine words, ends with its argument unchanged and every semaphore at zero. -/
theorem frame_words : Cert.quiescent_Kernel := fun m ρ _ => by
  rw [tables_eq]
  exact (θ_run Cert.KernelIdeal.defs (onTc (τ := Cert.KernelIdeal.τ) Cert.KernelIdeal.main) ⟨m, fun _ => 0, ρ⟩).mono
    (fun _ h => ⟨fun c => (h.1 c).2, h.2⟩) (run_main (F := Bits) m ρ)

end Cert.KernelIdeal.Sum

end
-- ==== Proof.lean ====
/-
  The certificate's proof, assembled: the kernel's run at its words and over the extended reals, the reference's run,
  and the value claim of Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Words
public import Idealize.ShloMosaic.Adequacy
public import Idealize.ShloMosaic.Init

@[expose] public section

noncomputable section

namespace Cert.Proof

open Idealize.ShloMosaic Idealize.SL.Sem

/-- The kernel, over the extended reals, ends with its argument unchanged and every semaphore at zero. -/
theorem frame_ideal : Cert.quiescent_KernelIdeal := fun m ρ _ =>
  (θ_run Cert.KernelIdeal.defs _ _).mono (fun _ h => ⟨fun c => (h.1 c).2, h.2⟩)
    (Cert.KernelIdeal.Sum.run_main (F := Ideal) m ρ)

/-- The reference ends with its argument unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The five claims. -/
theorem claim : Cert.Claim :=
  ⟨Cert.Kernel.Gen.facts, Cert.KernelIdeal.Gen.facts, Cert.ReferenceIdeal.Gen.facts,
    Cert.KernelIdeal.Sum.frame_words, frame_ideal, frame_reference, trivial, Cert.KernelIdeal.Sum.value⟩

end Cert.Proof

end
